-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![8192, 2048]⟩ (Layout.meshBlock [2, 4, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![8192, 8192]⟩ (Layout.meshBlock [2, 4, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 8192]⟩ ⟨2, ![2048, 8192]⟩ (Layout.meshBlock [2, 4, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x8192 : Shape := ⟨2, ![2048, 8192]⟩
abbrev S512x8192 : Shape := ⟨2, ![512, 8192]⟩
abbrev S2x2048x1024 : Shape := ⟨3, ![2, 2048, 1024]⟩
abbrev S2x512x1024 : Shape := ⟨3, ![2, 512, 1024]⟩
abbrev S2x3x512x1024 : Shape := ⟨4, ![2, 3, 512, 1024]⟩
abbrev S512x1024 : Shape := ⟨2, ![512, 1024]⟩
abbrev S2 : Shape := ⟨1, ![2]⟩
abbrev S2x3 : Shape := ⟨2, ![2, 3]⟩
abbrev S_ : Shape := ⟨0, ![]⟩
abbrev S1 : Shape := ⟨1, ![1]⟩
abbrev S1x2048x1024 : Shape := ⟨3, ![1, 2048, 1024]⟩
abbrev S2048x1024 : Shape := ⟨2, ![2048, 1024]⟩
abbrev S2048x512 : Shape := ⟨2, ![2048, 512]⟩
abbrev S1x512x1024 : Shape := ⟨3, ![1, 512, 1024]⟩
abbrev S1x1 : Shape := ⟨2, ![1, 1]⟩
abbrev S1x1x512x1024 : Shape := ⟨4, ![1, 1, 512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S512x8192, .f32⟩
  | .local _ .vmem, ⟨0, _⟩ => ⟨S2048x2048, .f32⟩
  | .local _ .vmem, ⟨1, _⟩ => ⟨S2x2048x1024, .f32⟩
  | .local _ .vmem, ⟨2, _⟩ => ⟨S2x512x1024, .bf16⟩
  | .local _ .vmem, ⟨3, _⟩ => ⟨S2x3x512x1024, .bf16⟩
  | .local _ .vmem, ⟨4, _⟩ => ⟨S512x1024, .bf16⟩
  | .local _ .vmem, ⟨5, _⟩ => ⟨S2x3x512x1024, .bf16⟩
  | .local _ .vmem, ⟨6, _⟩ => ⟨S2x512x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_36 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_35 : BitVec 32 := 16#32
  let v61 : BitVec 32 := Scalar.muli v5 c16_i32_35
  let v62 : BitVec 32 := Scalar.addi c0_i32_36 v61
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c4_i32_2 : BitVec 32 := 4#32
  let v9 : BitVec 32 := Scalar.addi v2 c4_i32_2
  let c1_i32_3 : BitVec 32 := 1#32
  let v10 : BitVec 32 := Scalar.subi v9 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c4_i32_37 : BitVec 32 := 4#32
  let v63 : BitVec 32 := Scalar.muli v20 c4_i32_37
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v65 : BitVec 32 := Scalar.muli v8 c1_i32_38
  let v66 : BitVec 32 := Scalar.addi v64 v65
  v66.toNat
def k0_dev2 (d0 : Dev nD) : Nat :=
  let c0_i32_41 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_40 : BitVec 32 := 16#32
  let v67 : BitVec 32 := Scalar.muli v5 c16_i32_40
  let v68 : BitVec 32 := Scalar.addi c0_i32_41 v67
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c1_i32_9 : BitVec 32 := 1#32
  let v21 : BitVec 32 := Scalar.addi v2 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_42 : BitVec 32 := 4#32
  let v69 : BitVec 32 := Scalar.muli v31 c4_i32_42
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v71 : BitVec 32 := Scalar.muli v8 c1_i32_43
  let v72 : BitVec 32 := Scalar.addi v70 v71
  v72.toNat
def k0_dev3 (d0 : Dev nD) : Nat :=
  let c0_i32_46 : BitVec 32 := 0#32
  let c1_i32_25 : BitVec 32 := 1#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let v48 : BitVec 32 := Scalar.subi c1_i32_25 v5
  let c16_i32_45 : BitVec 32 := 16#32
  let v73 : BitVec 32 := Scalar.muli v48 c16_i32_45
  let v74 : BitVec 32 := Scalar.addi c0_i32_46 v73
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c4_i32_47 : BitVec 32 := 4#32
  let v75 : BitVec 32 := Scalar.muli v2 c4_i32_47
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v77 : BitVec 32 := Scalar.muli v8 c1_i32_48
  let v78 : BitVec 32 := Scalar.addi v76 v77
  v78.toNat
def k0_dev4 (d0 : Dev nD) : Nat :=
  let c0_i32_51 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_50 : BitVec 32 := 16#32
  let v79 : BitVec 32 := Scalar.muli v5 c16_i32_50
  let v80 : BitVec 32 := Scalar.addi c0_i32_51 v79
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c4_i32_52 : BitVec 32 := 4#32
  let v81 : BitVec 32 := Scalar.muli v2 c4_i32_52
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v42 : BitVec 32 := Scalar.addi v8 c1_i32_22
  let c2_i32_23 : BitVec 32 := 2#32
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let v43 : BitVec 32 := Scalar.muli c2_i32_23 v41
  let v44 : BitVec 32 := Scalar.subi v42 v43
  let c1_i32_53 : BitVec 32 := 1#32
  let v83 : BitVec 32 := Scalar.muli v44 c1_i32_53
  let v84 : BitVec 32 := Scalar.addi v82 v83
  v84.toNat
def k0_dev5 (d0 : Dev nD) : Nat :=
  let c0_i32_56 : BitVec 32 := 0#32
  let c1_i32_30 : BitVec 32 := 1#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let v55 : BitVec 32 := Scalar.subi c1_i32_30 v5
  let c16_i32_55 : BitVec 32 := 16#32
  let v85 : BitVec 32 := Scalar.muli v55 c16_i32_55
  let v86 : BitVec 32 := Scalar.addi c0_i32_56 v85
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c4_i32_57 : BitVec 32 := 4#32
  let v87 : BitVec 32 := Scalar.muli v2 c4_i32_57
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v42 : BitVec 32 := Scalar.addi v8 c1_i32_22
  let c2_i32_23 : BitVec 32 := 2#32
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let v43 : BitVec 32 := Scalar.muli c2_i32_23 v41
  let v44 : BitVec 32 := Scalar.subi v42 v43
  let c1_i32_58 : BitVec 32 := 1#32
  let v89 : BitVec 32 := Scalar.muli v44 c1_i32_58
  let v90 : BitVec 32 := Scalar.addi v88 v89
  v90.toNat
def k0_off1 (d0 : Dev nD) (c0_i32_59 : BitVec 32) : Fin 2 → Nat :=
  let c0_i32_64 : BitVec 32 := 0#32
  let c2_i32_24 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let v45 : BitVec 32 := Scalar.muli c2_i32_24 v41
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let v46 : BitVec 32 := Scalar.addi v45 v5
  let c2048_i32 : BitVec 32 := 2048#32
  let v47 : BitVec 32 := Scalar.muli v46 c2048_i32
  let v91 : BitVec 32 := Scalar.addi v47 c0_i32_59
  ![0, v91.toNat]
def k0_off2 (d0 : Dev nD) (c3_i32 : BitVec 32) : Fin 2 → Nat :=
  let c0 : Index := 0#32
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let v109 : BitVec 32 := Scalar.addi v2 c3_i32
  let c4_i32_76 : BitVec 32 := 4#32
  let c0_i32_77 : BitVec 32 := 0#32
  let v110 : BitVec 1 := Scalar.cmpi .eq c4_i32_76 c0_i32_77
  let c1_i32_78 : BitVec 32 := 1#32
  let v111 : BitVec 32 := Scalar.select v110 c1_i32_78 c4_i32_76
  let v112 : BitVec 32 := Scalar.remsi v109 v111
  let c0_i32_80 : BitVec 32 := 0#32
  let v114 : BitVec 1 := Scalar.cmpi .slt v112 c0_i32_80
  let c0_i32_81 : BitVec 32 := 0#32
  let v115 : BitVec 1 := Scalar.cmpi .slt v111 c0_i32_81
  let v116 : BitVec 1 := Scalar.xori v114 v115
  let c0_i32_79 : BitVec 32 := 0#32
  let v113 : BitVec 1 := Scalar.cmpi .ne v112 c0_i32_79
  let v117 : BitVec 1 := Scalar.andi v116 v113
  let v118 : BitVec 32 := Scalar.addi v112 v111
  let v119 : BitVec 32 := Scalar.select v117 v118 v112
  let c512_i32 : BitVec 32 := 512#32
  let v120 : BitVec 32 := Scalar.muli v119 c512_i32
  let v121 : Index := Scalar.indexCast v120
  ![0, v121.toNat]
def k0_dev6 (d0 : Dev nD) : Nat :=
  let c0_i32_95 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_94 : BitVec 32 := 16#32
  let v131 : BitVec 32 := Scalar.muli v5 c16_i32_94
  let v132 : BitVec 32 := Scalar.addi c0_i32_95 v131
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c1_i32_9 : BitVec 32 := 1#32
  let v21 : BitVec 32 := Scalar.addi v2 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_96 : BitVec 32 := 4#32
  let v133 : BitVec 32 := Scalar.muli v31 c4_i32_96
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v135 : BitVec 32 := Scalar.muli v8 c1_i32_97
  let v136 : BitVec 32 := Scalar.addi v134 v135
  v136.toNat
def k0_dev7 (d0 : Dev nD) : Nat :=
  let c0_i32_130 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_129 : BitVec 32 := 16#32
  let v173 : BitVec 32 := Scalar.muli v5 c16_i32_129
  let v174 : BitVec 32 := Scalar.addi c0_i32_130 v173
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c1_i32_9 : BitVec 32 := 1#32
  let v21 : BitVec 32 := Scalar.addi v2 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_131 : BitVec 32 := 4#32
  let v175 : BitVec 32 := Scalar.muli v31 c4_i32_131
  let v176 : BitVec 32 := Scalar.addi v174 v175
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_132 : BitVec 32 := 1#32
  let v177 : BitVec 32 := Scalar.muli v8 c1_i32_132
  let v178 : BitVec 32 := Scalar.addi v176 v177
  v178.toNat
def k0_dev8 (d0 : Dev nD) : Nat :=
  let c0_i32_189 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_188 : BitVec 32 := 16#32
  let v231 : BitVec 32 := Scalar.muli v5 c16_i32_188
  let v232 : BitVec 32 := Scalar.addi c0_i32_189 v231
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c1_i32_9 : BitVec 32 := 1#32
  let v21 : BitVec 32 := Scalar.addi v2 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_190 : BitVec 32 := 4#32
  let v233 : BitVec 32 := Scalar.muli v31 c4_i32_190
  let v234 : BitVec 32 := Scalar.addi v232 v233
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v235 : BitVec 32 := Scalar.muli v8 c1_i32_191
  let v236 : BitVec 32 := Scalar.addi v234 v235
  v236.toNat
def k0_dev9 (d0 : Dev nD) : Nat :=
  let c0_i32_248 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_247 : BitVec 32 := 16#32
  let v289 : BitVec 32 := Scalar.muli v5 c16_i32_247
  let v290 : BitVec 32 := Scalar.addi c0_i32_248 v289
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c1_i32_9 : BitVec 32 := 1#32
  let v21 : BitVec 32 := Scalar.addi v2 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_249 : BitVec 32 := 4#32
  let v291 : BitVec 32 := Scalar.muli v31 c4_i32_249
  let v292 : BitVec 32 := Scalar.addi v290 v291
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_250 : BitVec 32 := 1#32
  let v293 : BitVec 32 := Scalar.muli v8 c1_i32_250
  let v294 : BitVec 32 := Scalar.addi v292 v293
  v294.toNat
def k0_dev10 (d0 : Dev nD) : Nat :=
  let c0_i32_307 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_306 : BitVec 32 := 16#32
  let v347 : BitVec 32 := Scalar.muli v5 c16_i32_306
  let v348 : BitVec 32 := Scalar.addi c0_i32_307 v347
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c1_i32_9 : BitVec 32 := 1#32
  let v21 : BitVec 32 := Scalar.addi v2 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_308 : BitVec 32 := 4#32
  let v349 : BitVec 32 := Scalar.muli v31 c4_i32_308
  let v350 : BitVec 32 := Scalar.addi v348 v349
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_309 : BitVec 32 := 1#32
  let v351 : BitVec 32 := Scalar.muli v8 c1_i32_309
  let v352 : BitVec 32 := Scalar.addi v350 v351
  v352.toNat
def k0_dev11 (d0 : Dev nD) : Nat :=
  let c0_i32_366 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_365 : BitVec 32 := 16#32
  let v405 : BitVec 32 := Scalar.muli v5 c16_i32_365
  let v406 : BitVec 32 := Scalar.addi c0_i32_366 v405
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c1_i32_9 : BitVec 32 := 1#32
  let v21 : BitVec 32 := Scalar.addi v2 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_367 : BitVec 32 := 4#32
  let v407 : BitVec 32 := Scalar.muli v31 c4_i32_367
  let v408 : BitVec 32 := Scalar.addi v406 v407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_368 : BitVec 32 := 1#32
  let v409 : BitVec 32 := Scalar.muli v8 c1_i32_368
  let v410 : BitVec 32 := Scalar.addi v408 v409
  v410.toNat
def k0_off3 (d0 : Dev nD) : Fin 2 → Nat :=
  let c0_374 : Index := 0#32
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c512_i32_373 : BitVec 32 := 512#32
  let v419 : BitVec 32 := Scalar.muli v2 c512_i32_373
  let v420 : Index := Scalar.indexCast v419
  ![0, v420.toNat]
def k0_off4 (d0 : Dev nD) (c0_i32_399 : BitVec 32) : Fin 2 → Nat :=
  let c0_i32_402 : BitVec 32 := 0#32
  let c2_i32_24 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let v45 : BitVec 32 := Scalar.muli c2_i32_24 v41
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let v46 : BitVec 32 := Scalar.addi v45 v5
  let c2048_i32 : BitVec 32 := 2048#32
  let v47 : BitVec 32 := Scalar.muli v46 c2048_i32
  let v445 : BitVec 32 := Scalar.addi v47 c0_i32_399
  ![0, v445.toNat]
def k0_dev12 (d0 : Dev nD) : Nat :=
  let c0_i32_414 : BitVec 32 := 0#32
  let c1_i32_25 : BitVec 32 := 1#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let v48 : BitVec 32 := Scalar.subi c1_i32_25 v5
  let c16_i32_413 : BitVec 32 := 16#32
  let v455 : BitVec 32 := Scalar.muli v48 c16_i32_413
  let v456 : BitVec 32 := Scalar.addi c0_i32_414 v455
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c4_i32_415 : BitVec 32 := 4#32
  let v457 : BitVec 32 := Scalar.muli v2 c4_i32_415
  let v458 : BitVec 32 := Scalar.addi v456 v457
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_416 : BitVec 32 := 1#32
  let v459 : BitVec 32 := Scalar.muli v8 c1_i32_416
  let v460 : BitVec 32 := Scalar.addi v458 v459
  v460.toNat
def k0_dev13 (d0 : Dev nD) : Nat :=
  let c0_i32_426 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_425 : BitVec 32 := 16#32
  let v467 : BitVec 32 := Scalar.muli v5 c16_i32_425
  let v468 : BitVec 32 := Scalar.addi c0_i32_426 v467
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c4_i32_427 : BitVec 32 := 4#32
  let v469 : BitVec 32 := Scalar.muli v2 c4_i32_427
  let v470 : BitVec 32 := Scalar.addi v468 v469
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v42 : BitVec 32 := Scalar.addi v8 c1_i32_22
  let c2_i32_23 : BitVec 32 := 2#32
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let v43 : BitVec 32 := Scalar.muli c2_i32_23 v41
  let v44 : BitVec 32 := Scalar.subi v42 v43
  let c1_i32_428 : BitVec 32 := 1#32
  let v471 : BitVec 32 := Scalar.muli v44 c1_i32_428
  let v472 : BitVec 32 := Scalar.addi v470 v471
  v472.toNat
def k0_dev14 (d0 : Dev nD) : Nat :=
  let c0_i32_438 : BitVec 32 := 0#32
  let c1_i32_30 : BitVec 32 := 1#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let v55 : BitVec 32 := Scalar.subi c1_i32_30 v5
  let c16_i32_437 : BitVec 32 := 16#32
  let v479 : BitVec 32 := Scalar.muli v55 c16_i32_437
  let v480 : BitVec 32 := Scalar.addi c0_i32_438 v479
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c4_i32_439 : BitVec 32 := 4#32
  let v481 : BitVec 32 := Scalar.muli v2 c4_i32_439
  let v482 : BitVec 32 := Scalar.addi v480 v481
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v42 : BitVec 32 := Scalar.addi v8 c1_i32_22
  let c2_i32_23 : BitVec 32 := 2#32
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let v43 : BitVec 32 := Scalar.muli c2_i32_23 v41
  let v44 : BitVec 32 := Scalar.subi v42 v43
  let c1_i32_440 : BitVec 32 := 1#32
  let v483 : BitVec 32 := Scalar.muli v44 c1_i32_440
  let v484 : BitVec 32 := Scalar.addi v482 v483
  v484.toNat
def k0_dev15 (d0 : Dev nD) : Nat :=
  let c0_i32_512 : BitVec 32 := 0#32
  let c1_i32_25 : BitVec 32 := 1#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let v48 : BitVec 32 := Scalar.subi c1_i32_25 v5
  let c16_i32_511 : BitVec 32 := 16#32
  let v539 : BitVec 32 := Scalar.muli v48 c16_i32_511
  let v540 : BitVec 32 := Scalar.addi c0_i32_512 v539
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c4_i32_513 : BitVec 32 := 4#32
  let v541 : BitVec 32 := Scalar.muli v2 c4_i32_513
  let v542 : BitVec 32 := Scalar.addi v540 v541
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_514 : BitVec 32 := 1#32
  let v543 : BitVec 32 := Scalar.muli v8 c1_i32_514
  let v544 : BitVec 32 := Scalar.addi v542 v543
  v544.toNat
def k0_dev16 (d0 : Dev nD) : Nat :=
  let c0_i32_524 : BitVec 32 := 0#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let c16_i32_523 : BitVec 32 := 16#32
  let v551 : BitVec 32 := Scalar.muli v5 c16_i32_523
  let v552 : BitVec 32 := Scalar.addi c0_i32_524 v551
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c4_i32_525 : BitVec 32 := 4#32
  let v553 : BitVec 32 := Scalar.muli v2 c4_i32_525
  let v554 : BitVec 32 := Scalar.addi v552 v553
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v42 : BitVec 32 := Scalar.addi v8 c1_i32_22
  let c2_i32_23 : BitVec 32 := 2#32
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let v43 : BitVec 32 := Scalar.muli c2_i32_23 v41
  let v44 : BitVec 32 := Scalar.subi v42 v43
  let c1_i32_526 : BitVec 32 := 1#32
  let v555 : BitVec 32 := Scalar.muli v44 c1_i32_526
  let v556 : BitVec 32 := Scalar.addi v554 v555
  v556.toNat
def k0_dev17 (d0 : Dev nD) : Nat :=
  let c0_i32_536 : BitVec 32 := 0#32
  let c1_i32_30 : BitVec 32 := 1#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let v55 : BitVec 32 := Scalar.subi c1_i32_30 v5
  let c16_i32_535 : BitVec 32 := 16#32
  let v563 : BitVec 32 := Scalar.muli v55 c16_i32_535
  let v564 : BitVec 32 := Scalar.addi c0_i32_536 v563
  let v0 : BitVec 32 := Dev.word d0
  let c4_i32_0 : BitVec 32 := 4#32
  let v1 : BitVec 32 := Scalar.divsi v0 c4_i32_0
  let c4_i32 : BitVec 32 := 4#32
  let v2 : BitVec 32 := Scalar.remsi v1 c4_i32
  let c4_i32_537 : BitVec 32 := 4#32
  let v565 : BitVec 32 := Scalar.muli v2 c4_i32_537
  let v566 : BitVec 32 := Scalar.addi v564 v565
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v42 : BitVec 32 := Scalar.addi v8 c1_i32_22
  let c2_i32_23 : BitVec 32 := 2#32
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let v43 : BitVec 32 := Scalar.muli c2_i32_23 v41
  let v44 : BitVec 32 := Scalar.subi v42 v43
  let c1_i32_538 : BitVec 32 := 1#32
  let v567 : BitVec 32 := Scalar.muli v44 c1_i32_538
  let v568 : BitVec 32 := Scalar.addi v566 v567
  v568.toNat
def k0_off5 (d0 : Dev nD) (c0_i32_567 : BitVec 32) : Fin 2 → Nat :=
  let c0_i32_570 : BitVec 32 := 0#32
  let c2_i32_26 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let v49 : BitVec 32 := Scalar.muli c2_i32_26 v41
  let c1_i32_27 : BitVec 32 := 1#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let v50 : BitVec 32 := Scalar.subi c1_i32_27 v5
  let v51 : BitVec 32 := Scalar.addi v49 v50
  let c2048_i32_566 : BitVec 32 := 2048#32
  let v596 : BitVec 32 := Scalar.muli v51 c2048_i32_566
  let v597 : BitVec 32 := Scalar.addi v596 c0_i32_567
  ![0, v597.toNat]
def k0_off6 (d0 : Dev nD) (c0_i32_599 : BitVec 32) : Fin 2 → Nat :=
  let c0_i32_602 : BitVec 32 := 0#32
  let c2_i32_29 : BitVec 32 := 2#32
  let c1_i32_28 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let v52 : BitVec 32 := Scalar.subi c1_i32_28 v41
  let v53 : BitVec 32 := Scalar.muli c2_i32_29 v52
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let v54 : BitVec 32 := Scalar.addi v53 v5
  let c2048_i32_598 : BitVec 32 := 2048#32
  let v624 : BitVec 32 := Scalar.muli v54 c2048_i32_598
  let v625 : BitVec 32 := Scalar.addi v624 c0_i32_599
  ![0, v625.toNat]
def k0_off7 (d0 : Dev nD) (c0_i32_631 : BitVec 32) : Fin 2 → Nat :=
  let c0_i32_634 : BitVec 32 := 0#32
  let c2_i32_32 : BitVec 32 := 2#32
  let c1_i32_31 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let v56 : BitVec 32 := Scalar.subi c1_i32_31 v41
  let v57 : BitVec 32 := Scalar.muli c2_i32_32 v56
  let c1_i32_33 : BitVec 32 := 1#32
  let v3 : BitVec 32 := Dev.word d0
  let c16_i32 : BitVec 32 := 16#32
  let v4 : BitVec 32 := Scalar.divsi v3 c16_i32
  let c2_i32 : BitVec 32 := 2#32
  let v5 : BitVec 32 := Scalar.remsi v4 c2_i32
  let v58 : BitVec 32 := Scalar.subi c1_i32_33 v5
  let v59 : BitVec 32 := Scalar.addi v57 v58
  let c2048_i32_630 : BitVec 32 := 2048#32
  let v652 : BitVec 32 := Scalar.muli v59 c2048_i32_630
  let v653 : BitVec 32 := Scalar.addi v652 c0_i32_631
  ![0, v653.toNat]
abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x2048 : Shape := ⟨2, ![8192, 2048]⟩
abbrev S8192x8192 : Shape := ⟨2, ![8192, 8192]⟩
abbrev S2048x8192 : Shape := ⟨2, ![2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S2048x8192, .f32⟩
  | .hbm, ⟨3, _⟩ => ⟨S2048x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mesh.lean ====
/-
The mesh of thirty-two devices, the buffers' parts and the semaphores of the kernel.

A device's number is `16 x + 4 y + z`. Along `y` the devices form rings of four (`lft`, `rgt`); the three partners of a
device (`prt`) differ from it in `x`, in the low bit of `z`, or in both. The kernel names its peers and its offsets by
word arithmetic; this file states their closed forms.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Wgrad

open Cert.KernelIdeal Cert.KernelIdeal.Gen
open Idealize.ShloMosaic
open Idealize.ShloMosaic.TcCoe

/-! ## The devices -/

/-- The device before, along `y`. -/
def lft (c : Dev nD) : Dev nD := ⟨16 * (c.val / 16) + 4 * ((c.val / 4 + 3) % 4) + c.val % 4, by have h : c.val < 32 := c.isLt; show _ < 32; omega⟩
/-- The device after, along `y`. -/
def rgt (c : Dev nD) : Dev nD := ⟨16 * (c.val / 16) + 4 * ((c.val / 4 + 1) % 4) + c.val % 4, by have h : c.val < 32 := c.isLt; show _ < 32; omega⟩
/-- The three devices a device trades its finished parts with: `x` flipped, the low bit of `z` flipped, both flipped. -/
def prt (j : Fin 3) (c : Dev nD) : Dev nD :=
  ⟨16 * ((c.val / 16 + (if j = 1 then 0 else 1)) % 2) + 4 * (c.val / 4 % 4) + (2 * (c.val % 4 / 2) + (c.val % 2 + (if j = 0 then 0 else 1)) % 2),
    by have h : c.val < 32 := c.isLt; show _ < 32; omega⟩

theorem lft_rgt (c : Dev nD) : lft (rgt c) = c := by revert c; decide
theorem rgt_lft (c : Dev nD) : rgt (lft c) = c := by revert c; decide
theorem prt_prt (j : Fin 3) (c : Dev nD) : prt j (prt j c) = c := by revert j c; decide

set_option maxRecDepth 100000 in
theorem dev1 (c : Dev nD) : (⟨k0_dev1 c, k0_dev1_lt c⟩ : Dev nD) = lft c := by revert c; decide +kernel
set_option maxRecDepth 100000 in
theorem dev2 (c : Dev nD) : (⟨k0_dev2 c, k0_dev2_lt c⟩ : Dev nD) = rgt c := by revert c; decide +kernel
set_option maxRecDepth 100000 in
theorem dev3 (c : Dev nD) : (⟨k0_dev3 c, k0_dev3_lt c⟩ : Dev nD) = prt 0 c := by revert c; decide +kernel
set_option maxRecDepth 100000 in
theorem dev4 (c : Dev nD) : (⟨k0_dev4 c, k0_dev4_lt c⟩ : Dev nD) = prt 1 c := by revert c; decide +kernel
set_option maxRecDepth 100000 in
theorem dev5 (c : Dev nD) : (⟨k0_dev5 c, k0_dev5_lt c⟩ : Dev nD) = prt 2 c := by revert c; decide +kernel
set_option maxRecDepth 100000 in
theorem dev6 (c : Dev nD) : (⟨k0_dev6 c, k0_dev6_lt c⟩ : Dev nD) = rgt c := by revert c; decide +kernel
set_option maxRecDepth 100000 in
theorem dev7 (c : Dev nD) : (⟨k0_dev7 c, k0_dev7_lt c⟩ : Dev nD) = rgt c := by revert c; decide +kernel
set_option maxRecDepth 100000 in
theorem dev8 (c : Dev nD) : (⟨k0_dev8 c, k0_dev8_lt c⟩ : Dev nD) = rgt c := by revert c; decide +kernel
set_option maxRecDepth 100000 in
theorem dev9 (c : Dev nD) : (⟨k0_dev9 c, k0_dev9_lt c⟩ : Dev nD) = rgt c := by revert c; decide +kernel
set_option maxRecDepth 100000 in
theorem dev10 (c : Dev nD) : (⟨k0_dev10 c, k0_dev10_lt c⟩ : Dev nD) = rgt c := by revert c; decide +kernel
set_option maxRecDepth 100000 in
theorem dev11 (c : Dev nD) : (⟨k0_dev11 c, k0_dev11_lt c⟩ : Dev nD) = rgt c := by revert c; decide +kernel
set_option maxRecDepth 100000 in
theorem dev12 (c : Dev nD) : (⟨k0_dev12 c, k0_dev12_lt c⟩ : Dev nD) = prt 0 c := by revert c; decide +kernel
set_option maxRecDepth 100000 in
theorem dev13 (c : Dev nD) : (⟨k0_dev13 c, k0_dev13_lt c⟩ : Dev nD) = prt 1 c := by revert c; decide +kernel
set_option maxRecDepth 100000 in
theorem dev14 (c : Dev nD) : (⟨k0_dev14 c, k0_dev14_lt c⟩ : Dev nD) = prt 2 c := by revert c; decide +kernel
set_option maxRecDepth 100000 in
theorem dev15 (c : Dev nD) : (⟨k0_dev15 c, k0_dev15_lt c⟩ : Dev nD) = prt 0 c := by revert c; decide +kernel
set_option maxRecDepth 100000 in
theorem dev16 (c : Dev nD) : (⟨k0_dev16 c, k0_dev16_lt c⟩ : Dev nD) = prt 1 c := by revert c; decide +kernel
set_option maxRecDepth 100000 in
theorem dev17 (c : Dev nD) : (⟨k0_dev17 c, k0_dev17_lt c⟩ : Dev nD) = prt 2 c := by revert c; decide +kernel

/-! ## Which columns a device works on -/

/-- A device's coordinate along `y`. -/
def yOf (c : Dev nD) : ℕ := c.val / 4 % 4
/-- The quarter of the columns a device computes. -/
def quarter (c : Dev nD) : ℕ := 2 * (c.val % 2) + c.val / 16

theorem yOf_lt (c : Dev nD) : yOf c < 4 := Nat.mod_lt _ (by decide)
theorem quarter_lt (c : Dev nD) : quarter c < 4 := by have h : c.val < 32 := c.isLt; unfold quarter; omega

set_option maxRecDepth 100000 in
theorem off1 (c : Dev nD) (s : Fin 2) : k0_off1 c (BitVec.ofNat 32 (1024 * s.val)) = ![0, 2048 * quarter c + 1024 * s.val] := by
  revert c s; decide +kernel
set_option maxRecDepth 100000 in
theorem off2 (c : Dev nD) (r : Fin 3) : k0_off2 c (BitVec.ofNat 32 (1 + r.val)) = ![0, 512 * ((yOf c + 1 + r.val) % 4)] := by
  revert c r; decide +kernel
set_option maxRecDepth 100000 in
theorem off3 (c : Dev nD) : k0_off3 c = ![0, 512 * yOf c] := by revert c; decide +kernel
set_option maxRecDepth 100000 in
theorem off4 (c : Dev nD) (s : Fin 2) : k0_off4 c (BitVec.ofNat 32 (1024 * s.val)) = ![0, 2048 * quarter c + 1024 * s.val] := by
  revert c s; decide +kernel
set_option maxRecDepth 100000 in
theorem off5 (c : Dev nD) (s : Fin 2) : k0_off5 c (BitVec.ofNat 32 (1024 * s.val)) = ![0, 2048 * quarter (prt 0 c) + 1024 * s.val] := by
  revert c s; decide +kernel
set_option maxRecDepth 100000 in
theorem off6 (c : Dev nD) (s : Fin 2) : k0_off6 c (BitVec.ofNat 32 (1024 * s.val)) = ![0, 2048 * quarter (prt 1 c) + 1024 * s.val] := by
  revert c s; decide +kernel
set_option maxRecDepth 100000 in
theorem off7 (c : Dev nD) (s : Fin 2) : k0_off7 c (BitVec.ofNat 32 (1024 * s.val)) = ![0, 2048 * quarter (prt 2 c) + 1024 * s.val] := by
  revert c s; decide +kernel

/-! ## The semaphores -/

/-- The kernel's semaphores: the runtime's barrier; the copies of `dy` in and of the result out; the ring's sending and
    receiving ones; the trade's sending and receiving ones. -/
inductive CK where
  | bar
  | dy (s : Fin 2)
  | out (s : Fin 2)
  | ys (s : Fin 2)
  | yr (s : Fin 2) (h : Fin 3)
  | xs (s : Fin 2) (j : Fin 3)
  | xr (s : Fin 2) (j : Fin 3)
  deriving DecidableEq

/-- All of them. -/
def cks : List CK :=
  [.bar, .dy 0, .dy 1, .out 0, .out 1, .ys 0, .ys 1, .yr 0 0, .yr 0 1, .yr 0 2, .yr 1 0, .yr 1 1, .yr 1 2,
    .xs 0 0, .xs 0 1, .xs 0 2, .xs 1 0, .xs 1 1, .xs 1 2, .xr 0 0, .xr 0 1, .xr 0 2, .xr 1 0, .xr 1 1, .xr 1 2]

theorem mem_cks (k : CK) : k ∈ cks := by
  cases k with
  | bar => decide
  | dy s => revert s; decide
  | out s => revert s; decide
  | ys s => revert s; decide
  | yr s h => revert s h; decide
  | xs s h => revert s h; decide
  | xr s h => revert s h; decide

instance : Fintype CK := ⟨cks.toFinset, fun k => List.mem_toFinset.mpr (mem_cks k)⟩

abbrev barS : Sem sig := (SemArray.scalar (sig.barrier 0 rfl) : Sems sig S_).sem

theorem inb2 (s : Fin 2) : ∀ a, (![s.val] : Fin 1 → ℕ) a + S1.size a ≤ S2.size a := by revert s; decide
theorem inb23 (s : Fin 2) (h : Fin 3) : ∀ a, (![s.val, h.val] : Fin 2 → ℕ) a + S1x1.size a ≤ S2x3.size a := by revert s h; decide

abbrev sem2 (a : DmaSems sig S2) (s : Fin 2) : DmaSem sig := ((a.slice (Rect.unit (s := S2) ![s.val] S1.size (inb2 s))).squeeze S_ squeezes_S1_S_).sem
abbrev sem23 (a : DmaSems sig S2x3) (s : Fin 2) (h : Fin 3) : DmaSem sig :=
  ((a.slice (Rect.unit (s := S2x3) ![s.val, h.val] S1x1.size (inb23 s h))).squeeze S_ squeezes_S1x1_S_).sem

/-- A semaphore's place among the core's. -/
def csem : CK → SemLoc sig
  | .bar => .reg barS
  | .dy s => .dma (sem2 cc0_scratch6 s)
  | .ys s => .dma (sem2 cc0_scratch7 s)
  | .yr s h => .dma (sem23 cc0_scratch8 s h)
  | .xs s j => .dma (sem23 cc0_scratch9 s j)
  | .xr s j => .dma (sem23 cc0_scratch10 s j)
  | .out s => .dma (sem2 cc0_scratch11 s)

set_option maxRecDepth 100000 in
theorem csem_injective : Function.Injective csem := by
  have h : ∀ a b : CK, csem a = csem b → a = b := by decide +kernel
  exact fun a b => h a b

/-- The kernel's semaphore at a place among the core's, if one is there. -/
def ckOf (sl : SemLoc sig) : Option CK := cks.find? (fun k => csem k = sl)

set_option maxRecDepth 100000 in
theorem ckOf_csem (k : CK) : ckOf (csem k) = some k := by
  have h : ∀ k ∈ cks, ckOf (csem k) = some k := by decide +kernel
  exact h k (mem_cks k)

/-- Device `c`'s semaphore `k`. -/
abbrev kcell (c : Dev nD) (k : CK) : GSem nD τ sig := ((c : Thread nD τ), csem k)

/-! ## The buffers' parts -/

abbrev XM : Memref sig .tc .vmem S2048x2048 .f32 := Memref.whole cc0_stg0_0
abbrev DYM : Memref sig .tc .hbm S2048x8192 .f32 := Memref.whole main_arg1
abbrev OM : Memref sig .tc .hbm S512x8192 .f32 := Memref.whole main_v1
abbrev DM : Memref sig .tc .vmem S2x2048x1024 .f32 := Memref.whole cc0_scratch0
abbrev GM : Memref sig .tc .vmem S2x512x1024 .bf16 := Memref.whole cc0_scratch1
abbrev YM : Memref sig .tc .vmem S2x3x512x1024 .bf16 := Memref.whole cc0_scratch2
abbrev SM : Memref sig .tc .vmem S512x1024 .bf16 := Memref.whole cc0_scratch3
abbrev RM : Memref sig .tc .vmem S2x3x512x1024 .bf16 := Memref.whole cc0_scratch4
abbrev PM : Memref sig .tc .vmem S2x512x1024 .f32 := Memref.whole cc0_scratch5

theorem inbD (s : Fin 2) : ∀ a, (![s.val, 0, 0] : Fin 3 → ℕ) a + S1x2048x1024.size a ≤ S2x2048x1024.size a := by revert s; decide
theorem inbG (s : Fin 2) : ∀ a, (![s.val, 0, 0] : Fin 3 → ℕ) a + S1x512x1024.size a ≤ S2x512x1024.size a := by revert s; decide
theorem inbY (s : Fin 2) (h : Fin 3) : ∀ a, (![s.val, h.val, 0, 0] : Fin 4 → ℕ) a + S1x1x512x1024.size a ≤ S2x3x512x1024.size a := by
  revert s h; decide

abbrev rD (s : Fin 2) : Rect S2x2048x1024 := Rect.unit (s := S2x2048x1024) ![s.val, 0, 0] S1x2048x1024.size (inbD s)
abbrev rG (s : Fin 2) : Rect S2x512x1024 := Rect.unit (s := S2x512x1024) ![s.val, 0, 0] S1x512x1024.size (inbG s)
abbrev rY (s : Fin 2) (h : Fin 3) : Rect S2x3x512x1024 := Rect.unit (s := S2x3x512x1024) ![s.val, h.val, 0, 0] S1x1x512x1024.size (inbY s h)

/-- Half `s` of the buffer `dy` is copied to. -/
abbrev DYS (s : Fin 2) : Memref sig .tc .vmem S2048x1024 .f32 := (DM.slice (rD s) (fun _ => rfl)).squeeze S2048x1024 squeezes_S1x2048x1024_S2048x1024
/-- Half `s` of the ring's sending buffer. -/
abbrev STG (s : Fin 2) : Memref sig .tc .vmem S512x1024 .bf16 := (GM.slice (rG s) (fun _ => rfl)).squeeze S512x1024 squeezes_S1x512x1024_S512x1024
/-- Half `s` of the buffer the result is copied from. -/
abbrev OST (s : Fin 2) : Memref sig .tc .vmem S512x1024 .f32 := (PM.slice (rG s) (fun _ => rfl)).squeeze S512x1024 squeezes_S1x512x1024_S512x1024
/-- The ring's receiving slot of half `s`, hop `h`. -/
abbrev YR (s : Fin 2) (h : Fin 3) : Memref sig .tc .vmem S512x1024 .bf16 :=
  (YM.slice (rY s h) (fun _ => rfl)).squeeze S512x1024 squeezes_S1x1x512x1024_S512x1024
/-- The trade's receiving slot of half `s`, partner `j`. -/
abbrev XR (s : Fin 2) (j : Fin 3) : Memref sig .tc .vmem S512x1024 .bf16 :=
  (RM.slice (rY s j) (fun _ => rfl)).squeeze S512x1024 squeezes_S1x1x512x1024_S512x1024
/-- The block of `dy` a device copies for half `s`. -/
abbrev DSRC (c : Dev nD) (s : Fin 2) : Memref sig .tc .hbm S2048x1024 .f32 :=
  DYM.slice (Rect.unit (s := S2048x8192) (k0_off1 c (BitVec.ofNat 32 (1024 * s.val))) S2048x1024.size (k0_off1_inb c s)) (fun _ => rfl)

/-- The offsets of the eight blocks of the result: a device's own quarter, its three partners' quarters. -/
def outOff (c : Dev nD) : Fin 4 → Fin 2 → Fin 2 → ℕ
  | 0, s => k0_off4 c (BitVec.ofNat 32 (1024 * s.val))
  | 1, s => k0_off5 c (BitVec.ofNat 32 (1024 * s.val))
  | 2, s => k0_off6 c (BitVec.ofNat 32 (1024 * s.val))
  | 3, s => k0_off7 c (BitVec.ofNat 32 (1024 * s.val))

theorem outOff_inb (c : Dev nD) (q : Fin 4) (s : Fin 2) : ∀ a, outOff c q s a + S512x1024.size a ≤ S512x8192.size a :=
  match q with
  | 0 => k0_off4_inb c s
  | 1 => k0_off5_inb c s
  | 2 => k0_off6_inb c s
  | 3 => k0_off7_inb c s

abbrev rO (c : Dev nD) (q : Fin 4) (s : Fin 2) : Rect S512x8192 := Rect.unit (s := S512x8192) (outOff c q s) S512x1024.size (outOff_inb c q s)
abbrev OUTS (c : Dev nD) (q : Fin 4) (s : Fin 2) : Memref sig .tc .hbm S512x1024 .f32 := OM.slice (rO c q s) (fun _ => rfl)

/-- The device a quarter of the result comes from: `0` the device itself, `1 + j` its partner `j`. -/
def srcDev (c : Dev nD) : Fin 4 → Dev nD
  | 0 => c
  | 1 => prt 0 c
  | 2 => prt 1 c
  | 3 => prt 2 c

theorem outOff_eq (c : Dev nD) (q : Fin 4) (s : Fin 2) : outOff c q s = ![0, 2048 * quarter (srcDev c q) + 1024 * s.val] :=
  match q with
  | 0 => off4 c s
  | 1 => off5 c s
  | 2 => off6 c s
  | 3 => off7 c s

/-! The program's spellings are these. -/
example : csem (.yr 1 2) = .dma ((cc0_scratch8.slice (Rect.unit (s := S2x3) ![1, 2] S1x1.size inb_S2x3_S1x1_1_2)).squeeze S_ squeezes_S1x1_S_).sem := rfl
example : YR 1 2 = ((Memref.whole cc0_scratch2).slice (Rect.unit (s := S2x3x512x1024) ![1, 2, 0, 0] S1x1x512x1024.size inb_S2x3x512x1024_S1x1x512x1024_1_2_0_0) (fun _ => rfl)).squeeze S512x1024 squeezes_S1x1x512x1024_S512x1024 := rfl

end Cert.Wgrad

end
-- ==== Proof.Base.lean ====
/-
The resource algebra of the proof, and rules for a part of a buffer named through a slice and a squeeze: loading it,
storing to it, splitting a whole buffer into its parts and joining the parts again.
-/
module

public import proofs.«01_k».proof.Proof.Mesh

@[expose] public section

noncomputable section

namespace Cert.Wgrad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's rounds: duties are named by the numbers below five. -/
abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- Device `c` runs `p` and ends in `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` holds all of `m`, which reads `X`. -/
abbrev has (c : Dev nD) {sp : Space} {s : Shape} {e : EltTy} (m : Memref sig .tc sp s e) (X : s.Idx → Elt F e) : sProp 𝕄 :=
  owns (Ix := Unit) (Name := ℕ) (U := UU) (Lvl := ℕ) (c : Thread nD τ) m fullShare X

/-- Device `c` holds all of `m`, whatever it reads. -/
abbrev hasAny (c : Dev nD) {sp : Space} {s : Shape} {e : EltTy} (m : Memref sig .tc sp s e) : sProp 𝕄 :=
  iprop(∃ X : s.Idx → Elt F e, has c m X)

section Slots

variable (c : Dev nD) {sp : Space} {cs : CoreSpace} {s s' : Shape} {e : EltTy}

omit [FloatOps F] in
theorem has_any (m : Memref sig .tc sp s e) (X : s.Idx → Elt F e) : (has c m X : sProp 𝕄) ⊢ hasAny c m := by
  iintro H; iexists X; iexact H

omit [FloatOps F] in
/-- What a part read through a slice and a squeeze reads, cast back to the slice's shape, is what the slice reads. -/
theorem cast_read (M : Memref sig .tc sp s e) (r : Rect s) (hr : ∀ a, r.stride a = 1) (hq : r.shape.Squeezes s') (h : s'.ShapeCasts r.shape)
    (f : M.view.ty.Contents (Elt F)) :
    shapeCast r.shape (((M.slice r hr).squeeze s' hq).view.read (Elt F) f) h = (M.access r).read (Elt F) f := by
  funext j
  show (M.view.slice r).read (Elt F) f (Shape.reshapeEquiv hq.numel_eq (Shape.reshapeEquiv h j)) = _
  rw [Shape.reshapeEquiv_reshapeEquiv, Shape.reshapeEquiv_self]

omit [FloatOps F] in
theorem read_cast_write (M : Memref sig .tc sp s e) (r : Rect s) (hr : ∀ a, r.stride a = 1) (hq : r.shape.Squeezes s') (h : r.shape.ShapeCasts s')
    (f : M.view.ty.Contents (Elt F)) (w : r.shape.Idx → Elt F e) :
    ((M.slice r hr).squeeze s' hq).view.read (Elt F) ((M.access r).write (Elt F) f w Finset.univ) = shapeCast s' w h := by
  funext j
  show (M.view.slice r).read (Elt F) ((M.view.slice r).write (Elt F) f w Finset.univ) (Shape.reshapeEquiv hq.numel_eq j) = _
  rw [View.read_write_univ]
  rfl

/-- Loading a part. -/
theorem load_slot {α : Type} {M : Memref sig .tc cs s e} {r : Rect s} (hr : ∀ a, r.stride a = 1) (hq : r.shape.Squeezes s') (h : s'.ShapeCasts r.shape)
    {q : PosShare TreeShare} {X : s'.Idx → Elt F e} {hl : M.view.LoadsAt r.toLoadRect}
    {k : (r.shape.Idx → Elt F e) → Prog (TpuEff nD τ sig (Elt F) Λ₀ .tc) α} {Q : α → sProp 𝕄} :
    (owns (c : Thread nD τ) ((M.slice r hr).squeeze s' hq) q X : sProp 𝕄)
      ⊢ iprop((owns (c : Thread nD τ) ((M.slice r hr).squeeze s' hq) q X -∗ wpc c (k (shapeCast r.shape X h)) Q)
        -∗ wpc c (.op (.load M r.toLoadRect hl) k) Q) := by
  unfold owns
  iintro ⟨%f, %hf, H⟩ Hk
  subst hf
  iapply (wp_load_rect 𝒱₀ (c : Thread nD τ) none Set.univ (m := M) (r := r) (S := ((M.slice r hr).squeeze s' hq).view.set) (f := f)
    (subset_of_eq (View.set_reshape _ _).symm)) $$ H
  iintro H
  rw [cast_read]
  iapply Hk
  iexists f
  isplitr; · ipureintro; rfl
  iexact H

/-- Storing to a part. -/
theorem store_slot {α : Type} {M : Memref sig .tc cs s e} {r : Rect s} (hr : ∀ a, r.stride a = 1) (hq : r.shape.Squeezes s') (h : r.shape.ShapeCasts s')
    {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (hasAny c ((M.slice r hr).squeeze s' hq) : sProp 𝕄)
      ⊢ iprop((has c ((M.slice r hr).squeeze s' hq) (shapeCast s' w h) -∗ wpc c (k ⟨⟩) Q)
        -∗ wpc c (.op (.store M r w Finset.univ hx hm) k) Q) := by
  unfold hasAny has owns
  iintro ⟨%X, %f, %hf, H⟩ Hk
  iapply (wp_store 𝒱₀ (c : Thread nD τ) none Set.univ (m := M) (r := r) (Mk := Finset.univ) (S := ((M.slice r hr).squeeze s' hq).view.set) (f := f)
    (subset_of_eq (View.set_reshape _ _).symm)) $$ H
  iintro H
  iapply Hk
  iexists _
  isplitr; · ipureintro; exact read_cast_write M r hr hq h f w
  iexact H

/-- Loading a box of the operand's staging buffer. -/
theorem load_x {α : Type} {r : Rect S2048x2048} {q : PosShare TreeShare} {X : S2048x2048.Idx → Elt F .f32} {hl : XM.view.LoadsAt r.toLoadRect}
    {k : (r.shape.Idx → Elt F .f32) → Prog (TpuEff nD τ sig (Elt F) Λ₀ .tc) α} {Q : α → sProp 𝕄} :
    (owns (c : Thread nD τ) XM q X : sProp 𝕄)
      ⊢ iprop((owns (c : Thread nD τ) XM q X -∗ wpc c (k (fun j => X (r.emb j))) Q) -∗ wpc c (.op (.load XM r.toLoadRect hl) k) Q) := by
  rw [owns_whole (c : Thread nD τ) cc0_stg0_0 q X]
  iintro H Hk
  iapply (wp_load_rect 𝒱₀ (c : Thread nD τ) none Set.univ (m := XM) (r := r) (Finset.subset_univ _)) $$ H
  iintro H
  iapply Hk
  iexact H

abbrev r6 : Rect S512x1024 := Rect.unit (s := S512x1024) ![0, 0] S512x1024.size inb_S512x1024_S512x1024_0_0

omit [FloatOps F] in
theorem zero2 : (![0, 0] : Fin 2 → Nat) = fun _ => 0 := funext fun a => by fin_cases a <;> rfl

/-- Loading the trade's sending buffer, its elements unused. -/
theorem load_send {α : Type} {hl : SM.view.LoadsAt r6.toLoadRect} {k : (r6.shape.Idx → Elt F .bf16) → Prog (TpuEff nD τ sig (Elt F) Λ₀ .tc) α} {Q : α → sProp 𝕄}
    {p : Prog (TpuEff nD τ sig (Elt F) Λ₀ .tc) α} (hk : ∀ v, k v = p) :
    (hasAny c SM : sProp 𝕄) ⊢ iprop((hasAny c SM -∗ wpc c p Q) -∗ wpc c (.op (.load SM r6.toLoadRect hl) k) Q) := by
  unfold hasAny has
  simp only [owns_whole (c : Thread nD τ) cc0_scratch3 fullShare]
  iintro ⟨%X, H⟩ Hk
  iapply (wp_load_rect 𝒱₀ (c : Thread nD τ) none Set.univ (m := SM) (r := r6) (Finset.subset_univ _)) $$ H
  iintro H
  rw [hk]
  iapply Hk
  iexists X; iexact H

/-- Storing the trade's sending buffer. -/
theorem store_send {α : Type} {w : S512x1024.Idx → Elt F .bf16} {hx : (SM.access r6).Stores Finset.univ}
    {hm : (Finset.univ : Finset r6.shape.Idx) = Finset.univ ∨ ∀ a, r6.stride a = 1}
    {k : PUnit → Prog (TpuEff nD τ sig (Elt F) Λ₀ .tc) α} {Q : α → sProp 𝕄} :
    (hasAny c SM : sProp 𝕄) ⊢ iprop((has c SM w -∗ wpc c (k ⟨⟩) Q) -∗ wpc c (.op (.store SM r6 w Finset.univ hx hm) k) Q) := by
  unfold hasAny has
  simp only [owns_whole (c : Thread nD τ) cc0_scratch3 fullShare]
  iintro ⟨%X, H⟩ Hk
  iapply (wp_store 𝒱₀ (c : Thread nD τ) none Set.univ (m := SM) (r := r6) (Mk := Finset.univ) (Finset.subset_univ _)) $$ H
  iintro H
  iapply Hk
  have hw : (SM.access r6 : View sig .tc _ _ _).write (Elt F) X w Finset.univ = w := Memref.write_access_unit_zero_univ (Elt F) cc0_scratch3 zero2 _ X w
  rw [hw]
  iexact H

/-! ## Splitting and joining -/

omit [FloatOps F] in
theorem hasAny_slot (M : Memref sig .tc sp s e) (r : Rect s) (hr : ∀ a, r.stride a = 1) (hq : r.shape.Squeezes s') :
    (hasAny c ((M.slice r hr).squeeze s' hq) : sProp 𝕄) = iprop(∃ f, M.view.loc (c : Thread nD τ) ↦[(M.access r).set]{fullShare} f) := by
  have hset : ((M.slice r hr).squeeze s' hq).view.set = (M.access r).set := View.set_reshape _ _
  have h₁ : (hasAny c ((M.slice r hr).squeeze s' hq) : sProp 𝕄) ⊢ iprop(∃ f, M.view.loc (c : Thread nD τ) ↦[(M.access r).set]{fullShare} f) := by
    unfold hasAny has owns
    rw [hset]
    iintro ⟨%X, %f, %hf, H⟩
    iexists f; iexact H
  have h₂ : iprop(∃ f, M.view.loc (c : Thread nD τ) ↦[(M.access r).set]{fullShare} f) ⊢ (hasAny c ((M.slice r hr).squeeze s' hq) : sProp 𝕄) := by
    unfold hasAny has owns
    rw [hset]
    iintro ⟨%f, H⟩
    iexists _; iexists f
    isplitr; · ipureintro; rfl
    iexact H
  exact BI.equiv_iff.mp ⟨h₁, h₂⟩

theorem acc_set (b : Ref sig .tc) (r : Rect b.ty.shape) : ((Memref.whole b).access r).set = r.set := View.set_slice_whole b r

omit [FloatOps F] in
/-- A whole buffer splits into parts that tile it, -/
theorem split_slots {T : Type} [Fintype T] (b : Ref sig .tc) (r : T → Rect b.ty.shape) (hr : ∀ t a, (r t).stride a = 1) (hq : ∀ t, (r t).shape.Squeezes s')
    (hd : ∀ t t', t ≠ t' → Disjoint (r t).set (r t').set) (hc : ∀ i, ∃ t, i ∈ (r t).set) :
    iprop(∃ f, (c : Thread nD τ).loc b ↦{fullShare} f)
      ⊢ (bigSep Finset.univ fun t => hasAny c (((Memref.whole b).slice (r t) (hr t)).squeeze s' (hq t)) : sProp 𝕄) := by
  classical
  iintro ⟨%f, H⟩
  have hu : (Finset.univ : Finset b.ty.shape.Idx) = Finset.univ.biUnion fun t => ((Memref.whole b).access (r t)).set := by
    ext i
    simp only [Finset.mem_univ, Finset.mem_biUnion, true_and, true_iff]
    obtain ⟨t, ht⟩ := hc i
    exact ⟨t, by rw [acc_set]; exact ht⟩
  have hs : ((c : Thread nD τ).loc b ↦{fullShare} f : sProp 𝕄)
      = bigSep Finset.univ fun t => (c : Thread nD τ).loc b ↦[((Memref.whole b).access (r t)).set]{fullShare} f := by
    rw [← pointsTo_biUnion]
    · exact congrArg (fun S => ((c : Thread nD τ).loc b ↦[S]{fullShare} f : sProp 𝕄)) hu
    · intro t _ t' _ h
      rw [acc_set, acc_set]
      exact hd t t' h
  ihave H := (Entails.of_eq hs) $$ H
  have he : ∀ t, ((c : Thread nD τ).loc b ↦[((Memref.whole b).access (r t)).set]{fullShare} f : sProp 𝕄)
      ⊢ hasAny c (((Memref.whole b).slice (r t) (hr t)).squeeze s' (hq t)) := fun t => by
    rw [hasAny_slot]; iintro H; iexists f; iexact H
  have hm : (bigSep Finset.univ fun t => ((c : Thread nD τ).loc b ↦[((Memref.whole b).access (r t)).set]{fullShare} f) : sProp 𝕄)
      ⊢ bigSep Finset.univ fun t => hasAny c (((Memref.whole b).slice (r t) (hr t)).squeeze s' (hq t)) := bigSep_mono fun t _ => he t
  iapply hm
  iexact H

/-- and the parts join to the whole again. -/
theorem join_slots {T : Type} [Fintype T] (b : Ref sig .tc) (r : T → Rect b.ty.shape) (hr : ∀ t a, (r t).stride a = 1) (hq : ∀ t, (r t).shape.Squeezes s')
    (hd : ∀ t t', t ≠ t' → Disjoint (r t).set (r t').set) (hc : ∀ i, ∃ t, i ∈ (r t).set) (t₀ : T) :
    (bigSep Finset.univ fun t => hasAny c (((Memref.whole b).slice (r t) (hr t)).squeeze s' (hq t)) : sProp 𝕄)
      ⊢ iprop(∃ f, (c : Thread nD τ).loc b ↦{fullShare} f) := by
  classical
  have hu : (Finset.univ : Finset b.ty.shape.Idx) = Finset.univ.biUnion fun t => ((Memref.whole b).access (r t)).set := by
    ext i
    simp only [Finset.mem_univ, Finset.mem_biUnion, true_and, true_iff]
    obtain ⟨t, ht⟩ := hc i
    exact ⟨t, by rw [acc_set]; exact ht⟩
  simp only [hasAny_slot]
  haveI : Nonempty (Buf (Elt F) ((c : Thread nD τ).loc b)) := ⟨fun _ => Classical.arbitrary _⟩
  iintro H
  ihave H := (BI.bigSep_exists_pi Finset.univ (fun t (f : Buf (Elt F) ((c : Thread nD τ).loc b)) =>
    ((c : Thread nD τ).loc b ↦[((Memref.whole b).access (r t)).set]{fullShare} f : sProp 𝕄))) $$ H
  icases H with ⟨%fs, H⟩
  ihave H := (pointsTo_biUnion_join Finset.univ (fun t => ((Memref.whole b).access (r t)).set) fs (fs t₀) (by
      intro t _ t' _ h
      rw [acc_set, acc_set]
      exact hd t t' h)) $$ H
  icases H with ⟨%g, %hg, H⟩
  iexists g
  rw [← hu]
  iexact H

end Slots

end Cert.Wgrad

end
-- ==== Proof.Sched.lean ====
/-
What each device computes, what each semaphore's rounds hand over, and what each device owes.

A device's block of `xᵀ dy` is a sum of four products, one per device along `y`: the ring carries a partial sum one
device further at each hop (`SND`), and the last device adds its own product (`FIN`). The finished part goes to the three
partners (`XSV`), so that each device ends with all four quarters of the columns (`OV`).
-/
module

public import proofs.«01_k».proof.Proof.Base

@[expose] public section

noncomputable section

namespace Cert.Wgrad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Contents -/

section Contents

variable (x : Dev nD → S2048x2048.Idx → Elt F .f32) (dy : Dev nD → S2048x8192.Idx → Elt F .f32)

/-- The four row blocks of the transposed operand a device multiplies by: its own (`0`), and those of the devices one, two
    and three further along `y`. -/
def XK (c : Dev nD) : Fin 4 → Vec F S2048x512 .f32
  | 0 => fun j => x c ((Rect.unit (s := S2048x2048) (k0_off3 c) S2048x512.size (k0_off3_inb c)).emb j)
  | 1 => fun j => x c ((Rect.unit (s := S2048x2048) (k0_off2 c 1#32) S2048x512.size (k0_off2_inb c 0)).emb j)
  | 2 => fun j => x c ((Rect.unit (s := S2048x2048) (k0_off2 c 2#32) S2048x512.size (k0_off2_inb c 1)).emb j)
  | 3 => fun j => x c ((Rect.unit (s := S2048x2048) (k0_off2 c 3#32) S2048x512.size (k0_off2_inb c 2)).emb j)

/-- The block of `dy` a device multiplies for half `s` of its quarter. -/
def DYB (c : Dev nD) (s : Fin 2) : Vec F S2048x1024 .f32 := (DSRC c s).view.read (Elt F) (dy c)

/-- The product of one block. -/
def DOT (a : Vec F S2048x512 .f32) (b : Vec F S2048x1024 .f32) : FVec F S512x1024 .f32 :=
  matmul dot_S2048x512_S2048x1024_S512x1024_0_0_1_1_n_n none a b (constant S512x1024 .f32 0x00000000#32)

/-- A partial sum with the device's product added. -/
def ADD (a : FVec F S512x1024 .f32) (b : FVec F S512x1024 .bf16) : FVec F S512x1024 .f32 := addf a (extf .f32 b bitsLt_bf16_f32)

def NAR (a : FVec F S512x1024 .f32) : FVec F S512x1024 .bf16 := truncf .bf16 a bitsLt_bf16_f32

/-- What device `c` sends on at hop `h`, half `s`. -/
def SND : Fin 3 → Dev nD → Fin 2 → FVec F S512x1024 .bf16
  | 0, c, s => NAR (DOT (XK x c 3) (DYB dy c s))
  | 1, c, s => NAR (ADD (DOT (XK x c 2) (DYB dy c s)) (NAR (DOT (XK x (lft c) 3) (DYB dy (lft c) s))))
  | 2, c, s => NAR (ADD (DOT (XK x c 1) (DYB dy c s)) (NAR (ADD (DOT (XK x (lft c) 2) (DYB dy (lft c) s)) (NAR (DOT (XK x (lft (lft c)) 3) (DYB dy (lft (lft c)) s))))))

/-- Device `c`'s finished part, half `s`. -/
def FIN (c : Dev nD) (s : Fin 2) : FVec F S512x1024 .f32 := ADD (DOT (XK x c 0) (DYB dy c s)) (SND x dy 2 (lft c) s)

/-- What it gives its partners. -/
def XSV (c : Dev nD) (s : Fin 2) : FVec F S512x1024 .bf16 := NAR (FIN x dy c s)

/-- What block `(q, s)` of the result on device `c` holds. -/
def OV (c : Dev nD) : Fin 4 → Fin 2 → FVec F S512x1024 .f32
  | 0, s => FIN x dy c s
  | 1, s => extf .f32 (XSV x dy (prt 0 c) s) bitsLt_bf16_f32
  | 2, s => extf .f32 (XSV x dy (prt 1 c) s) bitsLt_bf16_f32
  | 3, s => extf .f32 (XSV x dy (prt 2 c) s) bitsLt_bf16_f32

theorem SND_one (c : Dev nD) (s : Fin 2) : SND x dy 1 c s = NAR (ADD (DOT (XK x c 2) (DYB dy c s)) (SND x dy 0 (lft c) s)) := rfl
theorem SND_two (c : Dev nD) (s : Fin 2) : SND x dy 2 c s = NAR (ADD (DOT (XK x c 1) (DYB dy c s)) (SND x dy 1 (lft c) s)) := rfl

/-! ## The schedule -/

/-- The credit of a copy of half of `dy`, of half of the result, of a transfer. -/
@[irreducible] def NDY : ℕ := (DYS 0).view.dmaCredit
@[irreducible] def NO : ℕ := (OST 0).view.dmaCredit
@[irreducible] def N : ℕ := (STG 0).view.dmaCredit

omit [FloatOps F] in
theorem cr_dy (s : Fin 2) : (DYS s).view.dmaCredit = NDY := by unfold NDY View.dmaCredit; rfl
omit [FloatOps F] in
theorem cr_out (c : Dev nD) (q : Fin 4) (s : Fin 2) : (OUTS c q s).view.dmaCredit = NO := by unfold NO View.dmaCredit; rfl
omit [FloatOps F] in
theorem cr_stg (s : Fin 2) : (STG s).view.dmaCredit = N := by unfold N View.dmaCredit; rfl
omit [FloatOps F] in
theorem cr_yr (s : Fin 2) (h : Fin 3) : (YR s h).view.dmaCredit = N := by unfold N View.dmaCredit; rfl
omit [FloatOps F] in
theorem cr_xr (s : Fin 2) (h : Fin 3) : (XR s h).view.dmaCredit = N := by unfold N View.dmaCredit; rfl
omit [FloatOps F] in
theorem cr_sm : SM.view.dmaCredit = N := by unfold N View.dmaCredit; rfl

omit [FloatOps F] in
theorem NDY_pos : 0 < NDY := by rw [← cr_dy 0]; exact View.dmaCredit_pos _ (by decide)
omit [FloatOps F] in
theorem NO_pos : 0 < NO := by rw [← cr_out 0 0 0]; exact View.dmaCredit_pos _ (by decide)
omit [FloatOps F] in
theorem N_pos : 0 < N := by rw [← cr_sm]; exact View.dmaCredit_pos _ (by decide)

/-- The units of one duty; -/
def amt : CK → ℕ
  | .bar => 1
  | .dy _ => NDY
  | .out _ => NO
  | .ys _ => N
  | .yr _ _ => N
  | .xs _ _ => N
  | .xr _ _ => N

/-- the rounds; -/
def nr : CK → ℕ
  | .out _ => 4
  | .ys _ => 3
  | _ => 1

/-- the duties of each round. -/
def dts : CK → Finset (Fin 5)
  | .bar => Finset.univ
  | _ => {0}

/-- Which block of the result each copy out carries. -/
def piece : Fin 2 → ℕ → Fin 4 × Fin 2
  | 0, 0 => (0, 0)
  | 0, 1 => (1, 0)
  | 0, 2 => (3, 0)
  | 0, _ => (2, 1)
  | 1, 0 => (0, 1)
  | 1, 1 => (2, 0)
  | 1, 2 => (1, 1)
  | 1, _ => (3, 1)

/-- The shares of `dy`'s block the two copies in hold, and of the trade's sending buffer its three transfers hold. -/
def dsh : Fin 2 → PosShare TreeShare
  | 0 => fullShare.left
  | 1 => fullShare.right
def xsh : Fin 3 → PosShare TreeShare
  | 0 => fullShare.left
  | 1 => fullShare.right.left
  | 2 => fullShare.right.right

/-- The share of `dy`'s block a copy in holds. -/
def dySrc (c : Dev nD) (s : Fin 2) : sProp 𝕄 := (DSRC c s).view.loc (c : Thread nD τ) ↦[(DSRC c s).view.set]{dsh s} dy c

/-- A device's six receiving slots of the ring; its two of the trade with partner `j`. -/
def yslots (c : Dev nD) : sProp 𝕄 :=
  iprop(hasAny c (YR 0 0) ∗ hasAny c (YR 0 1) ∗ hasAny c (YR 0 2) ∗ hasAny c (YR 1 0) ∗ hasAny c (YR 1 1) ∗ hasAny c (YR 1 2))
def xslots (j : Fin 3) (c : Dev nD) : sProp 𝕄 := iprop(hasAny c (XR 0 j) ∗ hasAny c (XR 1 j))

/-- What each duty hands the semaphore's owner `c`. -/
def pay (c : Dev nD) : CK → ℕ → Fin 5 → sProp 𝕄
  | .bar, _, 0 => yslots (rgt c)
  | .bar, _, 1 => iprop(emp)
  | .bar, _, 2 => xslots 0 (prt 0 c)
  | .bar, _, 3 => xslots 1 (prt 1 c)
  | .bar, _, 4 => xslots 2 (prt 2 c)
  | .dy s, _, _ => iprop(has c (DYS s) (DYB dy c s) ∗ dySrc dy c s)
  | .out s, r, _ => iprop(has c (OUTS c (piece s r).1 (piece s r).2) (OV x dy c (piece s r).1 (piece s r).2) ∗ hasAny c (OST s))
  | .ys s, _, _ => hasAny c (STG s)
  | .yr s h, _, _ => has c (YR s h) (SND x dy h (lft c) s)
  | .xs s j, _, _ => owns (c : Thread nD τ) SM (xsh j) (XSV x dy c s)
  | .xr s j, _, _ => has c (XR s j) (XSV x dy (prt j c) s)

/-- A semaphore of the kernel, by its place. -/
def ckG (g : GSem nD τ sig) : Option CK := if g.1.2 = .tc then ckOf g.2 else none

omit [FloatOps F] in
theorem ckG_kcell (c : Dev nD) (k : CK) : ckG (kcell c k) = some k := by
  unfold ckG; rw [if_pos rfl]; exact ckOf_csem k

theorem amt_pos (k : CK) : 0 < amt k := by
  cases k with
  | bar => exact Nat.one_pos
  | dy _ => exact NDY_pos
  | out _ => exact NO_pos
  | ys _ => exact N_pos
  | yr _ _ => exact N_pos
  | xs _ _ => exact N_pos
  | xr _ _ => exact N_pos

def Rd : Rounds.Schedule (GSem nD τ sig) (Fin 5) 𝕄 where
  duties g r := match ckG g with
    | none => ∅
    | some k => if r < nr k then dts k else ∅
  amount g _ _ := match ckG g with
    | none => 1
    | some k => amt k
  payload g r d := match ckG g with
    | none => iprop(emp)
    | some k => pay x dy g.1.1 k r d
  amount_pos g _ _ _ := by
    cases ckG g with
    | none => exact Nat.one_pos
    | some k => exact amt_pos k

instance pay_storable (c : Dev nD) (k : CK) (r : ℕ) (d : Fin 5) : BI.Storable (upEmb : UEmb _ 𝕄) (pay x dy c k r d) := by
  cases k with
  | bar => fin_cases d <;> simp only [pay, yslots, xslots] <;> infer_instance
  | dy s => unfold pay dySrc; infer_instance
  | out s => unfold pay; infer_instance
  | ys s => unfold pay; infer_instance
  | yr s h => unfold pay; infer_instance
  | xs s h => unfold pay; infer_instance
  | xr s h => unfold pay; infer_instance

instance Rd_storable (g : GSem nD τ sig) (r : ℕ) (d : Fin 5) : BI.Storable (upEmb : UEmb _ 𝕄) ((Rd x dy).payload g r d) := by
  unfold Rd
  dsimp only
  cases ckG g with
  | none => dsimp only; infer_instance
  | some k => dsimp only; infer_instance

theorem duties_k (c : Dev nD) (k : CK) (r : ℕ) : (Rd x dy).duties (kcell c k) r = if r < nr k then dts k else ∅ := by
  unfold Rd; dsimp only; rw [ckG_kcell]
theorem amount_k (c : Dev nD) (k : CK) (r : ℕ) (d : Fin 5) : (Rd x dy).amount (kcell c k) r d = amt k := by
  unfold Rd; dsimp only; rw [ckG_kcell]
theorem payload_k (c : Dev nD) (k : CK) (r : ℕ) (d : Fin 5) : (Rd x dy).payload (kcell c k) r d = pay x dy c k r d := by
  unfold Rd; dsimp only; rw [ckG_kcell]

theorem duties_later (c : Dev nD) (k : CK) (r : ℕ) (h : nr k ≤ r) : (Rd x dy).duties (kcell c k) r = ∅ := by
  rw [duties_k, if_neg (Nat.not_lt.mpr h)]

theorem dts_one (k : CK) (hk : k ≠ .bar) : dts k = {0} := by
  cases k with
  | bar => exact absurd rfl hk
  | _ => rfl

theorem expect_one (c : Dev nD) (k : CK) (hk : k ≠ .bar) (r : ℕ) (hr : r < nr k) : (Rd x dy).expect (kcell c k) r = amt k := by
  unfold Schedule.expect Schedule.amountOf
  rw [duties_k, if_pos hr, dts_one k hk, Finset.sum_singleton, amount_k]
theorem expect_bar (c : Dev nD) : (Rd x dy).expect (kcell c .bar) 0 = 5 := by
  unfold Schedule.expect Schedule.amountOf
  rw [duties_k, if_pos (show 0 < nr .bar by decide), Finset.sum_congr rfl fun d _ => amount_k x dy c .bar 0 d, Finset.sum_const]
  rfl

theorem rest_one (c : Dev nD) (k : CK) (hk : k ≠ .bar) (r : ℕ) (hr : r < nr k) :
    bigSep ((Rd x dy).duties (kcell c k) r \ ∅) (fun d => (Rd x dy).payload (kcell c k) r d) = pay x dy c k r 0 := by
  rw [Finset.sdiff_empty, duties_k, if_pos hr, dts_one k hk, bigSep_singleton, payload_k]
theorem rest_bar (c : Dev nD) :
    bigSep ((Rd x dy).duties (kcell c .bar) 0 \ ∅) (fun d => (Rd x dy).payload (kcell c .bar) 0 d)
      = iprop(yslots (rgt c) ∗ emp ∗ xslots 0 (prt 0 c) ∗ xslots 1 (prt 1 c) ∗ xslots 2 (prt 2 c)) := by
  rw [Finset.sdiff_empty, duties_k, if_pos (show 0 < nr .bar by decide)]
  show bigSep Finset.univ _ = _
  rw [bigSep_univ_eq_bigSepL [0, 1, 2, 3, 4] (by decide) (by decide)]
  simp only [bigSepL_cons_cons, bigSepL_singleton, payload_k]
  rfl

end Contents

/-! ## What each device owes; the levels -/

/-- The units a device owes, in the order it pays them. -/
def debts (c : Dev nD) : List (Dev nD × CK) :=
  [(lft c, .bar), (rgt c, .bar), (prt 0 c, .bar), (prt 1 c, .bar), (prt 2 c, .bar),
    (rgt c, .yr 0 0), (rgt c, .yr 1 0), (rgt c, .yr 0 1), (rgt c, .yr 1 1), (rgt c, .yr 0 2), (rgt c, .yr 1 2),
    (prt 0 c, .xr 0 0), (prt 1 c, .xr 0 1), (prt 2 c, .xr 0 2), (prt 0 c, .xr 1 0), (prt 1 c, .xr 1 1), (prt 2 c, .xr 1 2)]

def tallies : List (Dev nD × CK) → CellTallies nD τ sig Unit
  | [] => 0
  | e :: l => tallies l + tallyAt (kcell e.1 e.2) () (amt e.2)

/-- What device `c` still owes when it has paid `n` of them. -/
def OB (c : Dev nD) (n : ℕ) : CellTallies nD τ sig Unit := tallies ((debts c).drop n)

/-- The levels: a wait is below everything its device still owes. -/
def lvk : CK → ℕ
  | .bar => 1
  | .yr s h => 2 + 2 * h.val + s.val
  | .xr _ _ => 10
  | _ => 0

def L (g : GSem nD τ sig) : Finset Unit := if g.1.2 = .tc then {()} else ∅
def lv (g : GSem nD τ sig) (_ : Unit) : ℕ := match ckG g with
  | none => 0
  | some k => lvk k

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : CK) (u : Unit) : lv (kcell c k) u = lvk k := by unfold lv; rw [ckG_kcell]

theorem tallies_pos {l : List (Dev nD × CK)} {g : GSem nD τ sig} {u : Unit} (h : 0 < tallies l g u) : ∃ e ∈ l, g = kcell e.1 e.2 := by
  induction l with
  | nil => exact absurd h (Nat.lt_irrefl 0)
  | cons e l ih =>
    unfold tallies at h
    rw [Pi.add_apply, Finsupp.add_apply, tallyAt_apply] at h
    by_cases hg : g = kcell e.1 e.2
    · exact ⟨e, List.mem_cons_self, hg⟩
    · rw [if_neg (fun h' => hg h'.1)] at h
      obtain ⟨e', he', hg'⟩ := ih h
      exact ⟨e', List.mem_cons_of_mem _ he', hg'⟩

omit [FloatOps F] in
/-- A wait on a semaphore at place `sm` of level at most `b`, everything owed above `b`. -/
theorem mayWait_of {c : Dev nD} {sm : SemLoc sig} (b : ℕ) (l : List (Dev nD × CK)) (hb : lv ((c : Thread nD τ), sm) () ≤ b) (hl : ∀ e ∈ l, b < lvk e.2) :
    (levAts L lv : sProp 𝕄) ⊢ MayWait (c : Thread nD τ) sm () (tallies l) :=
  MayOwe.of_cut (L := L) (lev := lv) b (fun p hp => by rw [Finset.mem_singleton.mp hp, L_tc]; exact Finset.mem_singleton_self _)
    (fun g u hg => by obtain ⟨e, he, rfl⟩ := tallies_pos hg; exact Finset.mem_singleton_self _)
    (fun p hp => by rw [Finset.mem_singleton.mp hp]; exact hb)
    (fun g u hg => by obtain ⟨e, he, rfl⟩ := tallies_pos hg; rw [lv_kcell]; exact hl e he)

end Cert.Wgrad

end
-- ==== Proof.Steps.lean ====
/-
The kernel's steps: a signal on a peer's barrier, a wait, a copy in or out, a transfer along the ring, a transfer to a partner.
-/
module

public import proofs.«01_k».proof.Proof.Sched

@[expose] public section

noncomputable section

namespace Cert.Wgrad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Steps

variable (x : Dev nD → S2048x2048.Idx → Elt F .f32) (dy : Dev nD → S2048x8192.Idx → Elt F .f32)
variable (K : Dev nD × CK → ℕ)

/-- What every device knows: every semaphore's invariant, that each is at its first round, the levels. -/
def PER : sProp 𝕄 :=
  iprop(bigSep Finset.univ (fun ck : Dev nD × CK => cellInv ER (Rd x dy) (K ck) (kcell ck.1 ck.2))
    ∗ bigSep Finset.univ (fun ck : Dev nD × CK => reached ER (kcell ck.1 ck.2) 0) ∗ levAts L lv)

instance PER_persistent : BI.Persistent (PER x dy K) := by unfold PER; infer_instance

theorem PER_inv (c : Dev nD) (k : CK) : PER x dy K ⊢ cellInv ER (Rd x dy) (K (c, k)) (kcell c k) := by
  unfold PER
  iintro ⟨H, -, -⟩
  have h : (bigSep Finset.univ (fun ck : Dev nD × CK => cellInv ER (Rd x dy) (K ck) (kcell ck.1 ck.2)) : sProp 𝕄)
    ⊢ cellInv ER (Rd x dy) (K (c, k)) (kcell c k) := bigSep_elim (Finset.mem_univ (c, k))
  iapply h $$ H
theorem PER_reached (c : Dev nD) (k : CK) : PER x dy K ⊢ reached ER (kcell c k) 0 := by
  unfold PER
  iintro ⟨-, H, -⟩
  have h : (bigSep Finset.univ (fun ck : Dev nD × CK => reached ER (kcell ck.1 ck.2) 0) : sProp 𝕄)
    ⊢ reached ER (kcell c k) 0 := bigSep_elim (Finset.mem_univ (c, k))
  iapply h $$ H
theorem PER_lev : PER x dy K ⊢ levAts L lv := by
  unfold PER
  iintro ⟨-, -, H⟩
  iexact H

/-- A device may wait for its semaphore `k` when everything it still owes is at a higher level. -/
theorem PER_mayWait (c : Dev nD) (k : CK) (n : ℕ) (hl : ∀ e ∈ (debts c).drop n, lvk k < lvk e.2) :
    PER x dy K ⊢ MayWait (c : Thread nD τ) (csem k) () (OB c n) := by
  have h : (levAts L lv : sProp 𝕄) ⊢ MayWait (c : Thread nD τ) (csem k) () (tallies ((debts c).drop n)) :=
    mayWait_of (c := c) (sm := csem k) (lvk k) ((debts c).drop n) (le_of_eq (lv_kcell c k ())) hl
  unfold PER OB
  iintro ⟨-, -, H⟩
  iapply h $$ H

/-- The owner's position at round `r` of its semaphore `k`. -/
def AT (c : Dev nD) (k : CK) (r : ℕ) : sProp 𝕄 := iprop(atPos ER (kcell c k) r ∅ 0 ∗ reached ER (kcell c k) r)
/-- The right to pay one duty. -/
def TOK (c : Dev nD) (k : CK) (r : ℕ) (d : Fin 5) : sProp 𝕄 := dutyTok ER (kcell c k) r d
/-- The units one duty pays, to be waited for. -/
def CR (c : Dev nD) (k : CK) : sProp 𝕄 := cred (tallyAt (kcell c k) () (amt k))
/-- Device `c` has paid `n` of what it owes. -/
def OWE (c : Dev nD) (n : ℕ) : sProp 𝕄 := iprop(∃ W, owes (c : Thread nD τ) (OB c n) W)

theorem mem_dts (k : CK) (hk : k ≠ .bar) (c : Dev nD) (r : ℕ) (hr : r < nr k) : (0 : Fin 5) ∈ (Rd x dy).duties (kcell c k) r := by
  rw [duties_k, if_pos hr, dts_one k hk]; exact Finset.mem_singleton_self _

omit [FloatOps F] in
theorem keep_source (c : Dev nD) {sp : Space} {s : Shape} {e : EltTy} (m : Memref sig .tc sp s e) (q : PosShare TreeShare)
    (f : Buf (Elt F) (m.view.loc (c : Thread nD τ))) (X : s.Idx → Elt F e) (h : m.view.read (Elt F) f = X) :
    (m.view.loc (c : Thread nD τ) ↦[m.view.set]{q} f : sProp 𝕄) ⊢ owns (c : Thread nD τ) m q X := by
  subst h
  exact owns_intro (c : Thread nD τ) m q f

omit [FloatOps F] in
theorem land_dest (c : Dev nD) {sp : Space} {s : Shape} {e : EltTy} (m : Memref sig .tc sp s e)
    (f : Buf (Elt F) (m.view.loc (c : Thread nD τ))) (Y X : s.Idx → Elt F e) (h : Y = X) :
    (m.view.loc (c : Thread nD τ) ↦[m.view.set]{fullShare} m.view.write (Elt F) f Y Finset.univ : sProp 𝕄) ⊢ has c m X :=
  keep_source c m fullShare _ X (by rw [View.read_write_univ]; exact h)

/-- A signal on the barrier of device `t`. -/
theorem sig_step {α : Type} {Q : α → sProp 𝕄} {kk : PUnit → Prog (TpuEff nD τ sig (Elt F) Λ₀ .tc) α}
    {c t : Dev nD} {n : ℕ} {d : Fin 5} (dst : Dev nD) (hdst : dst = t) (u : ℕ) (hu : u = 1)
    (hO : OB c n = OB c (n + 1) + tallyAt (kcell t .bar) () (amt .bar)) :
    iprop(PER x dy K ∗ OWE c n ∗ TOK t .bar 0 d ∗ pay x dy t .bar 0 d)
      ⊢ iprop((OWE c (n + 1) -∗ wpc c (kk ⟨⟩) Q) -∗ wpc c (.op (.semSignal (dst : Thread nD τ) barS u) kk) Q) := by
  subst hdst hu
  unfold OWE TOK
  iintro ⟨#HP, ⟨%W, HO⟩, Ht, Hp⟩ Hk
  ihave #Hi := (PER_inv x dy K dst .bar) $$ HP
  ihave #Hr := (PER_reached x dy K dst .bar) $$ HP
  iapply (Rounds.wp_signal 𝒱₀ ER (Rd x dy) (c : Thread nD τ) none (dst := (dst : Thread nD τ)) (κ := K (dst, .bar)) (r := 0) (d := d)
      (by show d ∈ (Rd x dy).duties (kcell dst .bar) 0; rw [duties_k, if_pos (show 0 < nr .bar by decide)]; exact Finset.mem_univ _)
      (amount_k x dy dst .bar 0 d) () (OB c (n + 1)) hO) $$ [HO Ht Hp]
  · isplitr; · iexact Hi
    isplitl [HO]; · iexact HO
    isplitl [Ht]; · iexact Ht
    isplitl [Hp]
    · rw [show (Rd x dy).payload ((dst : Thread nD τ), .reg barS) 0 d = pay x dy dst .bar 0 d from payload_k x dy dst .bar 0 d]
      iexact Hp
    iexact Hr
  iintro HO
  iapply Hk
  iexists W; iexact HO

/-- The wait on the device's own barrier: the peers' slots. -/
theorem wait_bar {α : Type} {Q : α → sProp 𝕄} {kk : PUnit → Prog (TpuEff nD τ sig (Elt F) Λ₀ .tc) α}
    {c : Dev nD} {n : ℕ} (u : ℕ) (hu : u = 5) (hl : ∀ e ∈ (debts c).drop n, 1 < lvk e.2) :
    iprop(PER x dy K ∗ cred (tallyAt (kcell c .bar) () 5) ∗ OWE c n ∗ AT c .bar 0)
      ⊢ iprop(((OWE c n ∗ AT c .bar 1 ∗ yslots (rgt c) ∗ xslots 0 (prt 0 c) ∗ xslots 1 (prt 1 c) ∗ xslots 2 (prt 2 c)) -∗ wpc c (kk ⟨⟩) Q)
        -∗ wpc c (.op (.semWait barS u) kk) Q) := by
  subst hu
  unfold OWE AT
  iintro ⟨#HP, Hc, ⟨%W, HO⟩, Hat, -⟩ Hk
  ihave #Hi := (PER_inv x dy K c .bar) $$ HP
  iapply (Rounds.wp_wait_rest_token 𝒱₀ ER (Rd x dy) (c : Thread nD τ) none (κ := K (c, .bar))
      (wpE_semWait_eq 𝒱₀ (c : Thread nD τ) none Set.univ) (Set.mem_univ _) () (O := OB c n) (W := W) (R := 0) (m := 0) (T := ∅)
      ((Nat.zero_add 5).trans (expect_bar x dy c).symm)) $$ [Hc HO Hat]
  · isplitr; · iexact Hi
    isplitl [Hc]; · iexact Hc
    isplitl [HO]; · iexact HO
    isplitr
    · iapply (PER_mayWait x dy K c .bar n hl)
      iexact HP
    iexact Hat
  iintro ⟨HO, Hat, #Hr, Hpay⟩
  have hrest : bigSep ((Rd x dy).duties ((c : Thread nD τ), SemLoc.reg barS) 0 \ ∅) (fun d => (Rd x dy).payload ((c : Thread nD τ), SemLoc.reg barS) 0 d)
      ⊢ iprop(yslots (rgt c) ∗ emp ∗ xslots 0 (prt 0 c) ∗ xslots 1 (prt 1 c) ∗ xslots 2 (prt 2 c)) := Entails.of_eq (rest_bar x dy c)
  ihave Hp := hrest $$ Hpay
  icases Hp with ⟨H0, -, H1, H2, H3⟩
  iapply Hk
  isplitl [HO]; · iexists _; iexact HO
  isplitl [Hat]
  · isplitl [Hat]; · iexact Hat
    iexact Hr
  isplitl [H0]; · iexact H0
  isplitl [H1]; · iexact H1
  isplitl [H2]; · iexact H2
  iexact H3

/-- A wait for one round of a DMA semaphore: what the round hands over. -/
theorem wait_step {α : Type} {Q : α → sProp 𝕄} {kk : PUnit → Prog (TpuEff nD τ sig (Elt F) Λ₀ .tc) α}
    {c : Dev nD} (k : CK) (r n : ℕ) (hk : k ≠ .bar) (hr : r < nr k)
    (hl : ∀ e ∈ (debts c).drop n, lvk k < lvk e.2)
    {sm : DmaSem sig} (hs : SemLoc.dma sm = csem k) {sp sp' : Space} {s s' : Shape} {e e' : EltTy}
    {src : Memref sig .tc sp' s' e'} {dst : Memref sig .tc sp s e} (hN : dst.view.dmaCredit = amt k)
    {hsrc : src.view.WordExact} {hdst : dst.view.WordExact} :
    iprop(PER x dy K ∗ CR c k ∗ OWE c n ∗ AT c k r)
      ⊢ iprop(((OWE c n ∗ AT c k (r + 1) ∗ pay x dy c k r 0) -∗ wpc c (kk ⟨⟩) Q)
        -∗ wpc c (.op (.waitDma2 sm src dst hsrc hdst) kk) Q) := by
  have hg : ((c : Thread nD τ), SemLoc.dma sm) = kcell c k := by rw [hs]
  unfold OWE AT CR
  rw [← hg, ← hN]
  iintro ⟨#HP, Hc, ⟨%W, HO⟩, Hat, -⟩ Hk
  ihave #Hi := (PER_inv x dy K c k) $$ HP
  rw [← hg]
  iapply (Rounds.wp_wait_rest_token 𝒱₀ ER (Rd x dy) (c : Thread nD τ) none (κ := K (c, k))
      (wpE_waitDma2_eq 𝒱₀ (c : Thread nD τ) none Set.univ) (Set.mem_univ _) () (O := OB c n) (W := W) (R := r) (m := 0) (T := ∅)
      (by rw [Nat.zero_add, hN, hg]; exact (expect_one x dy c k hk r hr).symm)) $$ [Hc HO Hat]
  · isplitr; · iexact Hi
    isplitl [Hc]; · iexact Hc
    isplitl [HO]; · iexact HO
    isplitr
    · rw [hs]
      iapply (PER_mayWait x dy K c k n hl)
      iexact HP
    iexact Hat
  iintro ⟨HO, Hat, #Hr, Hpay⟩
  have hrest : bigSep ((Rd x dy).duties ((c : Thread nD τ), SemLoc.dma sm) r \ ∅) (fun d => (Rd x dy).payload ((c : Thread nD τ), SemLoc.dma sm) r d)
      ⊢ pay x dy c k r 0 := by rw [hg]; exact Entails.of_eq (rest_one x dy c k hk r hr)
  ihave Hp := hrest $$ Hpay
  iapply Hk
  isplitl [HO]; · iexists _; iexact HO
  isplitl [Hat]
  · isplitl [Hat]; · iexact Hat
    iexact Hr
  iexact Hp

/-- A copy within the device paying round `r` of its semaphore `k`. -/
theorem copy_step {α : Type} {Q : α → sProp 𝕄} {kk : PUnit → Prog (TpuEff nD τ sig (Elt F) Λ₀ .tc) α}
    {c : Dev nD} (k : CK) (r : ℕ) (hk : k ≠ .bar) (hr : r < nr k)
    {sm : DmaSem sig} (hs : SemLoc.dma sm = csem k) {sp sp' : Space} {s : Shape} {e : EltTy}
    {src : Memref sig .tc sp s e} {dst : Memref sig .tc sp' s e} (hN : dst.view.dmaCredit = amt k)
    {hsrc : src.view.WordExact} {hdst : dst.view.WordExact}
    {hsem : DmaTarget.Typed (nD := nD) (τ := τ) (p := .tc) sp (.dma sm) (.here dst)}
    {q : PosShare TreeShare} {fs : Buf (Elt F) (src.view.loc (c : Thread nD τ))} {X : s.Idx → Elt F e} (hX : src.view.read (Elt F) fs = X)
    (hpay : iprop(has c dst X ∗ (src.view.loc (c : Thread nD τ) ↦[src.view.set]{q} fs)) ⊢ pay x dy c k r 0) :
    iprop(PER x dy K ∗ (src.view.loc (c : Thread nD τ) ↦[src.view.set]{q} fs) ∗ hasAny c dst ∗ TOK c k r 0 ∗ AT c k r)
      ⊢ iprop(((CR c k ∗ AT c k r) -∗ wpc c (kk ⟨⟩) Q) -∗ wpc c (.op (.enqueueDma src (.here dst) (.dma sm) hsrc hdst hsem) kk) Q) := by
  have hg : ((c : Thread nD τ), SemLoc.dma sm) = kcell c k := by rw [hs]
  have hpay1 : ∀ fd : Buf (Elt F) (dst.view.loc (c : Thread nD τ)),
      iprop((dst.view.loc (c : Thread nD τ) ↦[dst.view.set]{fullShare} (dst.view.write (Elt F) fd (src.view.read (Elt F) fs) Finset.univ))
        ∗ (src.view.loc (c : Thread nD τ) ↦[src.view.set]{q} fs)) ⊢ pay x dy c k r 0 := fun fd =>
    (sep_mono_left (land_dest c dst fd _ X hX)).trans hpay
  unfold AT CR TOK hasAny
  rw [← hg]
  iintro ⟨#HP, Hs, ⟨%Y, Hd⟩, Ht, Hat, #Hr⟩ Hk
  unfold has owns
  icases Hd with ⟨%fd, %hfd, Hd⟩
  ihave #Hi := (PER_inv x dy K c k) $$ HP
  rw [← hg]
  iapply (Rounds.wp_copy_pointsTo 𝒱₀ ER (Rd x dy) (c : Thread nD τ) none (κ := K (c, k)) (r := r) (d := 0)
      (fs := fs) (fd := fd) (q := q) (by rw [hg]; exact mem_dts x dy k hk c r hr) () (amt k) (show dst.view.amount (.dma sm) = amt k from hN) (by rw [hg]; exact amount_k x dy c k r 0)
      (by rw [hg, payload_k]; exact hpay1 fd)) $$ [Hs Hd Ht]
  · isplitr; · iexact Hi
    isplitl [Hs]; · iexact Hs
    isplitl [Hd]; · iexact Hd
    isplitl [Ht]; · iexact Ht
    iexact Hr
  iintro Hc
  iapply Hk
  isplitl [Hc]; · iexact Hc
  isplitl [Hat]; · iexact Hat
  iexact Hr

/-- A transfer to device `t` paying round `r` of the sending semaphore `k` and the one round of `t`'s receiving one `k'`. -/
theorem send_step {α : Type} {Q : α → sProp 𝕄} {kk : PUnit → Prog (TpuEff nD τ sig (Elt F) Λ₀ .tc) α}
    {c t : Dev nD} (k : CK) (r : ℕ) (k' : CK) (n : ℕ) (hk : k ≠ .bar) (hr : r < nr k) (hk' : k' ≠ .bar) (hr' : 0 < nr k')
    (dv : Dev nD) (hdv : dv = t) {sm sm' : DmaSem sig} (hs : SemLoc.dma sm = csem k) (hs' : SemLoc.dma sm' = csem k')
    {sp sp' : Space} {s : Shape} {e : EltTy} {src : Memref sig .tc sp s e} {dst : Memref sig .tc sp' s e}
    (hN : dst.view.dmaCredit = amt k) (hN' : dst.view.dmaCredit = amt k')
    {hsc : dst.view.ref.isScScratch = false} {hsrc : src.view.WordExact} {hdst : dst.view.WordExact}
    {hsem : DmaTarget.Typed (nD := nD) (τ := τ) (p := .tc) sp (.dma sm') (.remote (Dev.tc dv : Thread nD τ) dst (.dma sm) hsc)}
    {q : PosShare TreeShare} {X : s.Idx → Elt F e}
    (hO : OB c n = OB c (n + 1) + tallyAt (kcell t k') () (amt k'))
    (hpay : (owns (c : Thread nD τ) src q X : sProp 𝕄) ⊢ pay x dy c k r 0) (hpay' : (has t dst X : sProp 𝕄) ⊢ pay x dy t k' 0 0) :
    iprop(PER x dy K ∗ owns (c : Thread nD τ) src q X ∗ hasAny t dst ∗ OWE c n ∗ TOK c k r 0 ∗ AT c k r ∗ TOK t k' 0 0)
      ⊢ iprop(((CR c k ∗ AT c k r ∗ OWE c (n + 1)) -∗ wpc c (kk ⟨⟩) Q)
        -∗ wpc c (.op (.enqueueDma src (.remote (Dev.tc dv : Thread nD τ) dst (.dma sm) hsc) (.dma sm') hsrc hdst hsem) kk) Q) := by
  subst hdv
  have hg : ((c : Thread nD τ), SemLoc.dma sm) = kcell c k := by rw [hs]
  have hg' : ((dv : Thread nD τ), SemLoc.dma sm') = kcell dv k' := by rw [hs']
  have hcr : (cred (tallyAt (kcell c k) () (amt k)) : sProp 𝕄) = cred (tallyAt (kcell c k) () dst.view.dmaCredit) := by rw [hN]
  unfold AT CR TOK hasAny OWE
  rw [hcr, ← hg, ← hg']
  iintro ⟨#HP, Hs, ⟨%Y, Hd⟩, ⟨%W, HO⟩, Ht, ⟨Hat, #Hr⟩, Ht'⟩ Hk
  unfold has owns
  icases Hs with ⟨%fs, %hfs, Hs⟩
  icases Hd with ⟨%fd, %hfd, Hd⟩
  ihave #Hi := (PER_inv x dy K c k) $$ HP
  ihave #Hi' := (PER_inv x dy K dv k') $$ HP
  ihave #Hr' := (PER_reached x dy K dv k') $$ HP
  rw [← hg, ← hg']
  iapply (Rounds.wp_send_pointsTo 𝒱₀ ER (Rd x dy) (c : Thread nD τ) none (κ₁ := K (c, k)) (κ₂ := K (dv, k')) (r₁ := r) (r₂ := 0) (d₁ := 0) (d₂ := 0)
      (fd := fd) (fs := fs) (q := q) (O₀ := OB c n)
      (by rw [hg]; exact mem_dts x dy k hk c r hr) (by rw [hg']; exact mem_dts x dy k' hk' dv 0 hr') () () dst.view.dmaCredit rfl
      (by rw [hg, amount_k, hN]) (by rw [hg', amount_k, hN']) (OB c (n + 1)) (hO.trans (by rw [hg', hN'])) (W := W)
      (by
        rw [hg, payload_k]
        exact (keep_source c src q fs X hfs).trans hpay)
      (by
        rw [hg', payload_k]
        exact (land_dest dv dst fd _ X hfs).trans hpay')) $$ [Hs Hd HO Ht Ht']
  · isplitr; · iexact Hi
    isplitr; · iexact Hi'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  isplitl [Hat]
  · isplitl [Hat]; · iexact Hat
    iexact Hr
  iexists W; iexact HO

end Steps

end Cert.Wgrad

end
-- ==== Proof.Ops.lean ====
/-
The kernel's operations on its own buffers, each with what it takes and what it gives.
-/
module

public import proofs.«01_k».proof.Proof.Steps
public import Idealize.ShloMosaic.Lib.Pipeline.Value

@[expose] public section

noncomputable section

namespace Cert.Wgrad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The semaphores of what a device owes, in order. -/
def kdebts : List CK :=
  [.bar, .bar, .bar, .bar, .bar, .yr 0 0, .yr 1 0, .yr 0 1, .yr 1 1, .yr 0 2, .yr 1 2, .xr 0 0, .xr 0 1, .xr 0 2, .xr 1 0, .xr 1 1, .xr 1 2]

/-- Nothing is left to run. -/
theorem wpc_ret {α : Type} {Q : α → sProp 𝕄} (c : Dev nD) (a : α) : Q a ⊢ wpc c (.ret a) Q := by
  unfold wpc
  rw [wp_ret]
  iintro H
  imodintro
  iexact H

/-- A program that runs in two pieces. -/
theorem wpc_bind {α β : Type} {Q : β → sProp 𝕄} (c : Dev nD) (p : Prog (TpuEff nD τ sig (Elt F) Λ₀ .tc) α)
    (k : α → Prog (TpuEff nD τ sig (Elt F) Λ₀ .tc) β) : wpc c p (fun a => wpc c (k a) Q) ⊢ wpc c (p >>= k) Q := by
  unfold wpc
  rw [wp_bind]

theorem debts_above (c : Dev nD) (b n : ℕ) (h : ∀ k ∈ kdebts.drop n, b < lvk k) : ∀ e ∈ (debts c).drop n, b < lvk e.2 := by
  intro e he
  refine h e.2 ?_
  have hm : kdebts = (debts c).map Prod.snd := rfl
  rw [hm, ← List.map_drop]
  exact List.mem_map_of_mem he

section Ops

variable (x : Dev nD → S2048x2048.Idx → Elt F .f32) (dy : Dev nD → S2048x8192.Idx → Elt F .f32)
variable (K : Dev nD × CK → ℕ)

/-! ## The barrier -/

theorem sig_lft {α : Type} {Q : α → sProp 𝕄} {kk : PUnit → Prog (TpuEff nD τ sig (Elt F) Λ₀ .tc) α}
    (c : Dev nD) {dst : Dev nD} (hdst : dst = lft c) {u : ℕ} (hu : u = 1) :
    iprop(PER x dy K ∗ OWE c 0 ∗ TOK (lft c) .bar 0 0 ∗ yslots c)
      ⊢ iprop((OWE c 1 -∗ wpc c (kk ⟨⟩) Q) -∗ wpc c (.op (.semSignal (dst : Thread nD τ) barS u) kk) Q) := by
  have h := sig_step x dy K (Q := Q) (kk := kk) (c := c) (t := lft c) (n := 0) (d := 0) dst hdst u hu rfl
  have e : pay x dy (lft c) .bar 0 0 = yslots c := congrArg yslots (rgt_lft c)
  rw [e] at h
  exact h
theorem sig_rgt {α : Type} {Q : α → sProp 𝕄} {kk : PUnit → Prog (TpuEff nD τ sig (Elt F) Λ₀ .tc) α}
    (c : Dev nD) {dst : Dev nD} (hdst : dst = rgt c) {u : ℕ} (hu : u = 1) :
    iprop(PER x dy K ∗ OWE c 1 ∗ TOK (rgt c) .bar 0 1)
      ⊢ iprop((OWE c 2 -∗ wpc c (kk ⟨⟩) Q) -∗ wpc c (.op (.semSignal (dst : Thread nD τ) barS u) kk) Q) := by
  have h := sig_step x dy K (Q := Q) (kk := kk) (c := c) (t := rgt c) (n := 1) (d := 1) dst hdst u hu rfl
  have e : iprop(PER x dy K ∗ OWE c 1 ∗ TOK (rgt c) .bar 0 1) ⊢ iprop(PER x dy K ∗ OWE c 1 ∗ TOK (rgt c) .bar 0 1 ∗ pay x dy (rgt c) .bar 0 1) := by
    show iprop(PER x dy K ∗ OWE c 1 ∗ TOK (rgt c) .bar 0 1) ⊢ iprop(PER x dy K ∗ OWE c 1 ∗ TOK (rgt c) .bar 0 1 ∗ emp)
    iintro ⟨HP, Ho, Ht⟩
    isplitl [HP]; · iexact HP
    isplitl [Ho]; · iexact Ho
    isplitl [Ht]; · iexact Ht
    iempintro
  exact e.trans h
theorem sig_prt0 {α : Type} {Q : α → sProp 𝕄} {kk : PUnit → Prog (TpuEff nD τ sig (Elt F) Λ₀ .tc) α}
    (c : Dev nD) {dst : Dev nD} (hdst : dst = prt 0 c) {u : ℕ} (hu : u = 1) :
    iprop(PER x dy K ∗ OWE c 2 ∗ TOK (prt 0 c) .bar 0 2 ∗ xslots 0 c)
      ⊢ iprop((OWE c 3 -∗ wpc c (kk ⟨⟩) Q) -∗ wpc c (.op (.semSignal (dst : Thread nD τ) barS u) kk) Q) := by
  have h := sig_step x dy K (Q := Q) (kk := kk) (c := c) (t := prt 0 c) (n := 2) (d := 2) dst hdst u hu rfl
  have e : pay x dy (prt 0 c) .bar 0 2 = xslots 0 c := congrArg (xslots 0) (prt_prt 0 c)
  rw [e] at h
  exact h
theorem sig_prt1 {α : Type} {Q : α → sProp 𝕄} {kk : PUnit → Prog (TpuEff nD τ sig (Elt F) Λ₀ .tc) α}
    (c : Dev nD) {dst : Dev nD} (hdst : dst = prt 1 c) {u : ℕ} (hu : u = 1) :
    iprop(PER x dy K ∗ OWE c 3 ∗ TOK (prt 1 c) .bar 0 3 ∗ xslots 1 c)
      ⊢ iprop((OWE c 4 -∗ wpc c (kk ⟨⟩) Q) -∗ wpc c (.op (.semSignal (dst : Thread nD τ) barS u) kk) Q) := by
  have h := sig_step x dy K (Q := Q) (kk := kk) (c := c) (t := prt 1 c) (n := 3) (d := 3) dst hdst u hu rfl
  have e : pay x dy (prt 1 c) .bar 0 3 = xslots 1 c := congrArg (xslots 1) (prt_prt 1 c)
  rw [e] at h
  exact h
theorem sig_prt2 {α : Type} {Q : α → sProp 𝕄} {kk : PUnit → Prog (TpuEff nD τ sig (Elt F) Λ₀ .tc) α}
    (c : Dev nD) {dst : Dev nD} (hdst : dst = prt 2 c) {u : ℕ} (hu : u = 1) :
    iprop(PER x dy K ∗ OWE c 4 ∗ TOK (prt 2 c) .bar 0 4 ∗ xslots 2 c)
      ⊢ iprop((OWE c 5 -∗ wpc c (kk ⟨⟩) Q) -∗ wpc c (.op (.semSignal (dst : Thread nD τ) barS u) kk) Q) := by
  have h := sig_step x dy K (Q := Q) (kk := kk) (c := c) (t := prt 2 c) (n := 4) (d := 4) dst hdst u hu rfl
  have e : pay x dy (prt 2 c) .bar 0 4 = xslots 2 c := congrArg (xslots 2) (prt_prt 2 c)
  rw [e] at h
  exact h

/-! ## Waits -/

theorem wait_dy {α : Type} {Q : α → sProp 𝕄} {kk : PUnit → Prog (TpuEff nD τ sig (Elt F) Λ₀ .tc) α}
    (c : Dev nD) (s : Fin 2) (n : ℕ) (hl : ∀ k ∈ kdebts.drop n, 0 < lvk k) {src : Memref sig .tc .hbm S2048x1024 .f32}
    {hsrc : src.view.WordExact} {hdst : (DYS s).view.WordExact} :
    iprop(PER x dy K ∗ CR c (.dy s) ∗ OWE c n ∗ AT c (.dy s) 0)
      ⊢ iprop(((OWE c n ∗ AT c (.dy s) 1 ∗ has c (DYS s) (DYB dy c s) ∗ dySrc dy c s) -∗ wpc c (kk ⟨⟩) Q)
        -∗ wpc c (.op (.waitDma2 (sem2 cc0_scratch6 s) src (DYS s) hsrc hdst) kk) Q) :=
  wait_step x dy K (.dy s) 0 n (by simp) Nat.one_pos (debts_above c 0 n hl) rfl (cr_dy s)

theorem wait_ys {α : Type} {Q : α → sProp 𝕄} {kk : PUnit → Prog (TpuEff nD τ sig (Elt F) Λ₀ .tc) α}
    (c : Dev nD) (s : Fin 2) (r n : ℕ) (hr : r < 3) (hl : ∀ k ∈ kdebts.drop n, 0 < lvk k) {src : Memref sig .tc .vmem S512x1024 .bf16}
    {hsrc : src.view.WordExact} {hdst : (STG s).view.WordExact} :
    iprop(PER x dy K ∗ CR c (.ys s) ∗ OWE c n ∗ AT c (.ys s) r)
      ⊢ iprop(((OWE c n ∗ AT c (.ys s) (r + 1) ∗ hasAny c (STG s)) -∗ wpc c (kk ⟨⟩) Q)
        -∗ wpc c (.op (.waitDma2 (sem2 cc0_scratch7 s) src (STG s) hsrc hdst) kk) Q) :=
  wait_step x dy K (.ys s) r n (by simp) hr (debts_above c 0 n hl) rfl (cr_stg s)

theorem wait_yr {α : Type} {Q : α → sProp 𝕄} {kk : PUnit → Prog (TpuEff nD τ sig (Elt F) Λ₀ .tc) α}
    (c : Dev nD) (s : Fin 2) (h : Fin 3) (n : ℕ) (hl : ∀ k ∈ kdebts.drop n, lvk (.yr s h) < lvk k) {src : Memref sig .tc .vmem S512x1024 .bf16}
    {hsrc : src.view.WordExact} {hdst : (YR s h).view.WordExact} :
    iprop(PER x dy K ∗ CR c (.yr s h) ∗ OWE c n ∗ AT c (.yr s h) 0)
      ⊢ iprop(((OWE c n ∗ AT c (.yr s h) 1 ∗ has c (YR s h) (SND x dy h (lft c) s)) -∗ wpc c (kk ⟨⟩) Q)
        -∗ wpc c (.op (.waitDma2 (sem23 cc0_scratch8 s h) src (YR s h) hsrc hdst) kk) Q) :=
  wait_step x dy K (.yr s h) 0 n (by simp) Nat.one_pos (debts_above c _ n hl) rfl (cr_yr s h)

theorem wait_xs {α : Type} {Q : α → sProp 𝕄} {kk : PUnit → Prog (TpuEff nD τ sig (Elt F) Λ₀ .tc) α}
    (c : Dev nD) (s : Fin 2) (j : Fin 3) (n : ℕ) (hl : ∀ k ∈ kdebts.drop n, 0 < lvk k) {src : Memref sig .tc .vmem S512x1024 .bf16}
    {hsrc : src.view.WordExact} {hdst : SM.view.WordExact} :
    iprop(PER x dy K ∗ CR c (.xs s j) ∗ OWE c n ∗ AT c (.xs s j) 0)
      ⊢ iprop(((OWE c n ∗ AT c (.xs s j) 1 ∗ owns (c : Thread nD τ) SM (xsh j) (XSV x dy c s)) -∗ wpc c (kk ⟨⟩) Q)
        -∗ wpc c (.op (.waitDma2 (sem23 cc0_scratch9 s j) src SM hsrc hdst) kk) Q) :=
  wait_step x dy K (.xs s j) 0 n (by simp) Nat.one_pos (debts_above c 0 n hl) rfl cr_sm

theorem wait_xr {α : Type} {Q : α → sProp 𝕄} {kk : PUnit → Prog (TpuEff nD τ sig (Elt F) Λ₀ .tc) α}
    (c : Dev nD) (s : Fin 2) (j : Fin 3) (n : ℕ) (hl : ∀ k ∈ kdebts.drop n, 10 < lvk k) {src : Memref sig .tc .vmem S512x1024 .bf16}
    {hsrc : src.view.WordExact} {hdst : (XR s j).view.WordExact} :
    iprop(PER x dy K ∗ CR c (.xr s j) ∗ OWE c n ∗ AT c (.xr s j) 0)
      ⊢ iprop(((OWE c n ∗ AT c (.xr s j) 1 ∗ has c (XR s j) (XSV x dy (prt j c) s)) -∗ wpc c (kk ⟨⟩) Q)
        -∗ wpc c (.op (.waitDma2 (sem23 cc0_scratch10 s j) src (XR s j) hsrc hdst) kk) Q) :=
  wait_step x dy K (.xr s j) 0 n (by simp) Nat.one_pos (debts_above c 10 n hl) rfl (cr_xr s j)

/-- The destination the waits for the copies out name. -/
abbrev OM0 : Memref sig .tc .hbm S512x1024 .f32 :=
  OM.slice (Rect.unit (s := S512x8192) ![0, 0] S512x1024.size inb_S512x8192_S512x1024_0_0) (fun _ => rfl)

omit [FloatOps F] in
theorem cr_om0 : OM0.view.dmaCredit = NO := by unfold NO View.dmaCredit; rfl

theorem wait_out {α : Type} {Q : α → sProp 𝕄} {kk : PUnit → Prog (TpuEff nD τ sig (Elt F) Λ₀ .tc) α}
    (c : Dev nD) (s : Fin 2) (r n : ℕ) (hr : r < 4) (q : Fin 4) (s' : Fin 2) (hp : piece s r = (q, s'))
    (hl : ∀ k ∈ kdebts.drop n, 0 < lvk k) {src : Memref sig .tc .vmem S512x1024 .f32}
    {hsrc : src.view.WordExact} {hdst : OM0.view.WordExact} :
    iprop(PER x dy K ∗ CR c (.out s) ∗ OWE c n ∗ AT c (.out s) r)
      ⊢ iprop(((OWE c n ∗ AT c (.out s) (r + 1) ∗ has c (OUTS c q s') (OV x dy c q s') ∗ hasAny c (OST s)) -∗ wpc c (kk ⟨⟩) Q)
        -∗ wpc c (.op (.waitDma2 (sem2 cc0_scratch11 s) src OM0 hsrc hdst) kk) Q) := by
  have h := wait_step x dy K (Q := Q) (kk := kk) (c := c) (.out s) r n (by simp) hr (debts_above c 0 n hl) (sm := sem2 cc0_scratch11 s) rfl
    (src := src) (dst := OM0) cr_om0 (hsrc := hsrc) (hdst := hdst)
  have e : pay x dy c (.out s) r 0 = iprop(has c (OUTS c q s') (OV x dy c q s') ∗ hasAny c (OST s)) := by
    show iprop(has c (OUTS c (piece s r).1 (piece s r).2) (OV x dy c (piece s r).1 (piece s r).2) ∗ hasAny c (OST s)) = _
    rw [hp]
  rw [e] at h
  exact h

/-! ## Copies within the device -/

theorem copy_dy {α : Type} {Q : α → sProp 𝕄} {kk : PUnit → Prog (TpuEff nD τ sig (Elt F) Λ₀ .tc) α} (c : Dev nD) (s : Fin 2)
    {hsrc : (DSRC c s).view.WordExact} {hdst : (DYS s).view.WordExact}
    {hsem : DmaTarget.Typed (nD := nD) (τ := τ) (p := .tc) .hbm (.dma (sem2 cc0_scratch6 s)) (.here (DYS s))} :
    iprop(PER x dy K ∗ dySrc dy c s ∗ hasAny c (DYS s) ∗ TOK c (.dy s) 0 0 ∗ AT c (.dy s) 0)
      ⊢ iprop(((CR c (.dy s) ∗ AT c (.dy s) 0) -∗ wpc c (kk ⟨⟩) Q)
        -∗ wpc c (.op (.enqueueDma (DSRC c s) (.here (DYS s)) (.dma (sem2 cc0_scratch6 s)) hsrc hdst hsem) kk) Q) :=
  copy_step x dy K (.dy s) 0 (by simp) Nat.one_pos rfl (cr_dy s) (X := DYB dy c s) rfl .rfl

theorem copy_out {α : Type} {Q : α → sProp 𝕄} {kk : PUnit → Prog (TpuEff nD τ sig (Elt F) Λ₀ .tc) α} (c : Dev nD) (s : Fin 2) (r : ℕ) (hr : r < 4)
    (q : Fin 4) (s' : Fin 2) (hp : piece s r = (q, s'))
    {hsrc : (OST s).view.WordExact} {hdst : (OUTS c q s').view.WordExact}
    {hsem : DmaTarget.Typed (nD := nD) (τ := τ) (p := .tc) .vmem (.dma (sem2 cc0_scratch11 s)) (.here (OUTS c q s'))} :
    iprop(PER x dy K ∗ has c (OST s) (OV x dy c q s') ∗ hasAny c (OUTS c q s') ∗ TOK c (.out s) r 0 ∗ AT c (.out s) r)
      ⊢ iprop(((CR c (.out s) ∗ AT c (.out s) r) -∗ wpc c (kk ⟨⟩) Q)
        -∗ wpc c (.op (.enqueueDma (OST s) (.here (OUTS c q s')) (.dma (sem2 cc0_scratch11 s)) hsrc hdst hsem) kk) Q) := by
  have e : pay x dy c (.out s) r 0 = iprop(has c (OUTS c q s') (OV x dy c q s') ∗ hasAny c (OST s)) := by
    show iprop(has c (OUTS c (piece s r).1 (piece s r).2) (OV x dy c (piece s r).1 (piece s r).2) ∗ hasAny c (OST s)) = _
    rw [hp]
  have h : ∀ fs : Buf (Elt F) ((OST s).view.loc (c : Thread nD τ)), (OST s).view.read (Elt F) fs = OV x dy c q s' → _ := fun fs hfs =>
    copy_step x dy K (Q := Q) (kk := kk) (c := c) (.out s) r (by simp) hr (sm := sem2 cc0_scratch11 s) rfl (src := OST s) (dst := OUTS c q s')
      (cr_out c q s') (hsrc := hsrc) (hdst := hdst) (hsem := hsem) (q := fullShare) (fs := fs) hfs
      (by
        rw [e]
        refine sep_mono_right ?_
        exact (keep_source c (OST s) fullShare fs _ rfl).trans (has_any c (OST s) _))
  iintro ⟨HP, Hs, Hd, Ht, Ha⟩
  unfold has owns
  icases Hs with ⟨%fs, %hfs, Hs⟩
  iapply (h fs hfs)
  isplitl [HP]; · iexact HP
  isplitl [Hs]; · iexact Hs
  isplitl [Hd]; · iexact Hd
  isplitl [Ht]; · iexact Ht
  iexact Ha

/-! ## Transfers -/

theorem send_y {α : Type} {Q : α → sProp 𝕄} {kk : PUnit → Prog (TpuEff nD τ sig (Elt F) Λ₀ .tc) α} (c : Dev nD) (s : Fin 2) (h : Fin 3) (r n : ℕ) (hr : r < 3)
    {dv : Dev nD} (hdv : dv = rgt c) (hO : OB c n = OB c (n + 1) + tallyAt (kcell (rgt c) (.yr s h)) () N)
    {hsc : (YR s h).view.ref.isScScratch = false} {hsrc : (STG s).view.WordExact} {hdst : (YR s h).view.WordExact}
    {hsem : DmaTarget.Typed (nD := nD) (τ := τ) (p := .tc) .vmem (.dma (sem23 cc0_scratch8 s h))
      (.remote (Dev.tc dv : Thread nD τ) (YR s h) (.dma (sem2 cc0_scratch7 s)) hsc)} :
    iprop(PER x dy K ∗ has c (STG s) (SND x dy h c s) ∗ hasAny (rgt c) (YR s h) ∗ OWE c n ∗ TOK c (.ys s) r 0 ∗ AT c (.ys s) r
        ∗ TOK (rgt c) (.yr s h) 0 0)
      ⊢ iprop(((CR c (.ys s) ∗ AT c (.ys s) r ∗ OWE c (n + 1)) -∗ wpc c (kk ⟨⟩) Q)
        -∗ wpc c (.op (.enqueueDma (STG s) (.remote (Dev.tc dv : Thread nD τ) (YR s h) (.dma (sem2 cc0_scratch7 s)) hsc)
          (.dma (sem23 cc0_scratch8 s h)) hsrc hdst hsem) kk) Q) :=
  send_step x dy K (.ys s) r (.yr s h) n (by simp) hr (by simp) Nat.one_pos dv hdv rfl rfl (cr_yr s h) (cr_yr s h) hO
    (has_any c (STG s) _)
    (by
      show (has (rgt c) (YR s h) (SND x dy h c s) : sProp 𝕄) ⊢ has (rgt c) (YR s h) (SND x dy h (lft (rgt c)) s)
      rw [lft_rgt])

theorem send_x {α : Type} {Q : α → sProp 𝕄} {kk : PUnit → Prog (TpuEff nD τ sig (Elt F) Λ₀ .tc) α} (c : Dev nD) (s : Fin 2) (j : Fin 3) (n : ℕ)
    {dv : Dev nD} (hdv : dv = prt j c) (hO : OB c n = OB c (n + 1) + tallyAt (kcell (prt j c) (.xr s j)) () N)
    {hsc : (XR s j).view.ref.isScScratch = false} {hsrc : SM.view.WordExact} {hdst : (XR s j).view.WordExact}
    {hsem : DmaTarget.Typed (nD := nD) (τ := τ) (p := .tc) .vmem (.dma (sem23 cc0_scratch10 s j))
      (.remote (Dev.tc dv : Thread nD τ) (XR s j) (.dma (sem23 cc0_scratch9 s j)) hsc)} :
    iprop(PER x dy K ∗ owns (c : Thread nD τ) SM (xsh j) (XSV x dy c s) ∗ hasAny (prt j c) (XR s j) ∗ OWE c n ∗ TOK c (.xs s j) 0 0 ∗ AT c (.xs s j) 0
        ∗ TOK (prt j c) (.xr s j) 0 0)
      ⊢ iprop(((CR c (.xs s j) ∗ AT c (.xs s j) 0 ∗ OWE c (n + 1)) -∗ wpc c (kk ⟨⟩) Q)
        -∗ wpc c (.op (.enqueueDma SM (.remote (Dev.tc dv : Thread nD τ) (XR s j) (.dma (sem23 cc0_scratch9 s j)) hsc)
          (.dma (sem23 cc0_scratch10 s j)) hsrc hdst hsem) kk) Q) :=
  send_step x dy K (.xs s j) 0 (.xr s j) n (by simp) Nat.one_pos (by simp) Nat.one_pos dv hdv rfl rfl (cr_xr s j) (cr_xr s j) hO
    .rfl
    (by
      show (has (prt j c) (XR s j) (XSV x dy c s) : sProp 𝕄) ⊢ has (prt j c) (XR s j) (XSV x dy (prt j (prt j c)) s)
      rw [prt_prt])

end Ops

/-! ## Loads and stores -/

section Local

theorem casD : S2048x1024.ShapeCasts S1x2048x1024 := by decide
theorem casG : S1x512x1024.ShapeCasts S512x1024 := by decide
theorem casG' : S512x1024.ShapeCasts S1x512x1024 := by decide
theorem casY : S512x1024.ShapeCasts S1x1x512x1024 := by decide

variable (c : Dev nD)

theorem load_dy {α : Type} {Q : α → sProp 𝕄} (s : Fin 2) {X : S2048x1024.Idx → Elt F .f32} {hl : DM.view.LoadsAt (rD s).toLoadRect}
    {k : ((rD s).shape.Idx → Elt F .f32) → Prog (TpuEff nD τ sig (Elt F) Λ₀ .tc) α} :
    (has c (DYS s) X : sProp 𝕄)
      ⊢ iprop((has c (DYS s) X -∗ wpc c (k (shapeCast S1x2048x1024 X casD)) Q) -∗ wpc c (.op (.load DM (rD s).toLoadRect hl) k) Q) :=
  load_slot c (M := DM) (r := rD s) (fun _ => rfl) squeezes_S1x2048x1024_S2048x1024 casD

theorem load_yr {α : Type} {Q : α → sProp 𝕄} (s : Fin 2) (h : Fin 3) {X : S512x1024.Idx → Elt F .bf16} {hl : YM.view.LoadsAt (rY s h).toLoadRect}
    {k : ((rY s h).shape.Idx → Elt F .bf16) → Prog (TpuEff nD τ sig (Elt F) Λ₀ .tc) α} :
    (has c (YR s h) X : sProp 𝕄)
      ⊢ iprop((has c (YR s h) X -∗ wpc c (k (shapeCast S1x1x512x1024 X casY)) Q) -∗ wpc c (.op (.load YM (rY s h).toLoadRect hl) k) Q) :=
  load_slot c (M := YM) (r := rY s h) (fun _ => rfl) squeezes_S1x1x512x1024_S512x1024 casY

theorem load_xr {α : Type} {Q : α → sProp 𝕄} (s : Fin 2) (h : Fin 3) {X : S512x1024.Idx → Elt F .bf16} {hl : RM.view.LoadsAt (rY s h).toLoadRect}
    {k : ((rY s h).shape.Idx → Elt F .bf16) → Prog (TpuEff nD τ sig (Elt F) Λ₀ .tc) α} :
    (has c (XR s h) X : sProp 𝕄)
      ⊢ iprop((has c (XR s h) X -∗ wpc c (k (shapeCast S1x1x512x1024 X casY)) Q) -∗ wpc c (.op (.load RM (rY s h).toLoadRect hl) k) Q) :=
  load_slot c (M := RM) (r := rY s h) (fun _ => rfl) squeezes_S1x1x512x1024_S512x1024 casY

/-- A load whose elements nothing reads. -/
theorem load_stg {α : Type} {Q : α → sProp 𝕄} (s : Fin 2) {hl : GM.view.LoadsAt (rG s).toLoadRect}
    {k : ((rG s).shape.Idx → Elt F .bf16) → Prog (TpuEff nD τ sig (Elt F) Λ₀ .tc) α} :
    (hasAny c (STG s) : sProp 𝕄)
      ⊢ iprop((∀ v, hasAny c (STG s) -∗ wpc c (k v) Q) -∗ wpc c (.op (.load GM (rG s).toLoadRect hl) k) Q) := by
  iintro ⟨%X, H⟩ Hk
  iapply (load_slot c (M := GM) (r := rG s) (fun _ => rfl) squeezes_S1x512x1024_S512x1024 casG') $$ H
  iintro H
  iapply Hk
  iexists X; iexact H

theorem load_ost {α : Type} {Q : α → sProp 𝕄} (s : Fin 2) {hl : PM.view.LoadsAt (rG s).toLoadRect}
    {k : ((rG s).shape.Idx → Elt F .f32) → Prog (TpuEff nD τ sig (Elt F) Λ₀ .tc) α} :
    (hasAny c (OST s) : sProp 𝕄)
      ⊢ iprop((∀ v, hasAny c (OST s) -∗ wpc c (k v) Q) -∗ wpc c (.op (.load PM (rG s).toLoadRect hl) k) Q) := by
  iintro ⟨%X, H⟩ Hk
  iapply (load_slot c (M := PM) (r := rG s) (fun _ => rfl) squeezes_S1x512x1024_S512x1024 casG') $$ H
  iintro H
  iapply Hk
  iexists X; iexact H

theorem store_stg {α : Type} {Q : α → sProp 𝕄} (s : Fin 2) (Y : S512x1024.Idx → Elt F .bf16) {w : (rG s).shape.Idx → Elt F .bf16}
    (hw : shapeCast S512x1024 w casG = Y) {hx : (GM.access (rG s)).Stores Finset.univ}
    {hm : (Finset.univ : Finset (rG s).shape.Idx) = Finset.univ ∨ ∀ a, (rG s).stride a = 1}
    {k : PUnit → Prog (TpuEff nD τ sig (Elt F) Λ₀ .tc) α} :
    (hasAny c (STG s) : sProp 𝕄)
      ⊢ iprop((has c (STG s) Y -∗ wpc c (k ⟨⟩) Q) -∗ wpc c (.op (.store GM (rG s) w Finset.univ hx hm) k) Q) := by
  subst hw
  exact store_slot c (M := GM) (r := rG s) (fun _ => rfl) squeezes_S1x512x1024_S512x1024 casG

theorem store_ost {α : Type} {Q : α → sProp 𝕄} (s : Fin 2) (Y : S512x1024.Idx → Elt F .f32) {w : (rG s).shape.Idx → Elt F .f32}
    (hw : shapeCast S512x1024 w casG = Y) {hx : (PM.access (rG s)).Stores Finset.univ}
    {hm : (Finset.univ : Finset (rG s).shape.Idx) = Finset.univ ∨ ∀ a, (rG s).stride a = 1}
    {k : PUnit → Prog (TpuEff nD τ sig (Elt F) Λ₀ .tc) α} :
    (hasAny c (OST s) : sProp 𝕄)
      ⊢ iprop((has c (OST s) Y -∗ wpc c (k ⟨⟩) Q) -∗ wpc c (.op (.store PM (rG s) w Finset.univ hx hm) k) Q) := by
  subst hw
  exact store_slot c (M := PM) (r := rG s) (fun _ => rfl) squeezes_S1x512x1024_S512x1024 casG

theorem store_sm {α : Type} {Q : α → sProp 𝕄} (Y : S512x1024.Idx → Elt F .bf16) {w : S512x1024.Idx → Elt F .bf16} (hw : w = Y)
    {hx : (SM.access r6).Stores Finset.univ} {hm : (Finset.univ : Finset r6.shape.Idx) = Finset.univ ∨ ∀ a, r6.stride a = 1}
    {k : PUnit → Prog (TpuEff nD τ sig (Elt F) Λ₀ .tc) α} :
    (hasAny c SM : sProp 𝕄) ⊢ iprop((has c SM Y -∗ wpc c (k ⟨⟩) Q) -∗ wpc c (.op (.store SM r6 w Finset.univ hx hm) k) Q) := by
  subst hw
  exact store_send c

omit [FloatOps F] in
/-- The trade's sending buffer in the shares of its three transfers, -/
theorem split_sm (X : S512x1024.Idx → Elt F .bf16) :
    (has c SM X : sProp 𝕄) ⊢ iprop(owns (c : Thread nD τ) SM (xsh 0) X ∗ owns (c : Thread nD τ) SM (xsh 1) X ∗ owns (c : Thread nD τ) SM (xsh 2) X) := by
  unfold has
  simp only [owns_whole (c : Thread nD τ) cc0_scratch3]
  iintro H
  ihave H := (pointsTo_share (PosShare.mem_left_op_right fullShare)).1 $$ H
  icases H with ⟨H0, H⟩
  ihave H := (pointsTo_share (PosShare.mem_left_op_right fullShare.right)).1 $$ H
  icases H with ⟨H1, H2⟩
  isplitl [H0]; · iexact H0
  isplitl [H1]; · iexact H1
  iexact H2

omit [FloatOps F] in
/-- and joined again. -/
theorem join_sm (X : S512x1024.Idx → Elt F .bf16) :
    iprop(owns (c : Thread nD τ) SM (xsh 0) X ∗ owns (c : Thread nD τ) SM (xsh 1) X ∗ owns (c : Thread nD τ) SM (xsh 2) X) ⊢ (hasAny c SM : sProp 𝕄) := by
  unfold hasAny has
  simp only [owns_whole (c : Thread nD τ) cc0_scratch3]
  iintro ⟨H0, H1, H2⟩
  iexists X
  iapply (pointsTo_share (PosShare.mem_left_op_right fullShare)).2
  isplitl [H0]; · iexact H0
  iapply (pointsTo_share (PosShare.mem_left_op_right fullShare.right)).2
  isplitl [H1]; · iexact H1
  iexact H2

end Local

/-! ## What the payloads compute -/

section Vals

variable (a : Vec F S2048x512 .f32) (B : Vec F S2048x1024 .f32) (R : Vec F S512x1024 .bf16) (v w : FVec F S512x1024 .f32) (b : FVec F S512x1024 .bf16)
variable {hB : S2048x1024.ShapeCasts S1x2048x1024} {hR : S512x1024.ShapeCasts S1x1x512x1024} {h : S1x512x1024.ShapeCasts S512x1024}

theorem val1 : k0_pay1 a (shapeCast S1x2048x1024 B hB) = NAR (DOT a B) := by
  unfold k0_pay1 NAR DOT; simp only [shapeCast_shapeCast, shapeCast_self]
theorem val2 : shapeCast S512x1024 (k0_pay2 b) h = b := by
  unfold k0_pay2; simp only [shapeCast_shapeCast, shapeCast_self]
theorem val3 : shapeCast S512x1024 (k0_pay3 a (shapeCast S1x2048x1024 B hB)) h = NAR (DOT a B) := by
  unfold k0_pay3 NAR DOT; simp only [shapeCast_shapeCast, shapeCast_self]
theorem val4 : k0_pay4 a (shapeCast S1x2048x1024 B hB) (shapeCast S1x1x512x1024 R hR) = ADD (DOT a B) R := by
  unfold k0_pay4 ADD DOT; simp only [shapeCast_shapeCast, shapeCast_self]
theorem val5 : shapeCast S512x1024 (k0_pay5 v) h = NAR v := by
  unfold k0_pay5 NAR; simp only [shapeCast_shapeCast, shapeCast_self]
theorem val6 : k0_pay6 a (shapeCast S1x2048x1024 B hB) (shapeCast S1x1x512x1024 R hR) = ADD (DOT a B) R := by
  unfold k0_pay6 ADD DOT; simp only [shapeCast_shapeCast, shapeCast_self]
theorem val7 : shapeCast S512x1024 (k0_pay7 v) h = NAR v := by
  unfold k0_pay7 NAR; simp only [shapeCast_shapeCast, shapeCast_self]
theorem val8 : k0_pay8 a (shapeCast S1x2048x1024 B hB) = DOT a B := by
  unfold k0_pay8 DOT; simp only [shapeCast_shapeCast, shapeCast_self]
theorem val9 : k0_pay9 (shapeCast S1x1x512x1024 R hR) = extf .f32 R bitsLt_bf16_f32 := by
  unfold k0_pay9; simp only [shapeCast_shapeCast, shapeCast_self]
theorem val10 : shapeCast S512x1024 (k0_pay10 v w) h = NAR (addf v w) := by
  unfold k0_pay10 NAR; simp only [shapeCast_shapeCast, shapeCast_self]
theorem val11 : k0_pay11 a (shapeCast S1x2048x1024 B hB) = DOT a B := by
  unfold k0_pay11 DOT; simp only [shapeCast_shapeCast, shapeCast_self]
theorem val12 : k0_pay12 (shapeCast S1x1x512x1024 R hR) = R := by
  unfold k0_pay12; simp only [shapeCast_shapeCast, shapeCast_self]
theorem val13 : shapeCast S512x1024 (k0_pay13 v b) h = NAR (ADD v b) := by
  unfold k0_pay13 NAR ADD; simp only [shapeCast_shapeCast, shapeCast_self]
theorem val14 : k0_pay14 a (shapeCast S1x2048x1024 B hB) (shapeCast S1x1x512x1024 R hR) = ADD (DOT a B) R := by
  unfold k0_pay14 ADD DOT; simp only [shapeCast_shapeCast, shapeCast_self]
theorem val15 : shapeCast S512x1024 (k0_pay15 a (shapeCast S1x2048x1024 B hB) (shapeCast S1x1x512x1024 R hR)) h = ADD (DOT a B) R := by
  unfold k0_pay15; simp only [shapeCast_shapeCast]; exact val14 a B R
theorem val16 : k0_pay16 v = NAR v := by
  unfold k0_pay16 NAR; simp only [shapeCast_self]
theorem val17 : k0_pay17 a (shapeCast S1x2048x1024 B hB) = DOT a B := by
  unfold k0_pay17 DOT; simp only [shapeCast_shapeCast, shapeCast_self]
theorem val18 : k0_pay18 v (shapeCast S1x1x512x1024 R hR) = ADD v R := by
  unfold k0_pay18 ADD; simp only [shapeCast_shapeCast, shapeCast_self]
theorem val19 : shapeCast S512x1024 (k0_pay19 v (shapeCast S1x1x512x1024 R hR)) h = ADD v R := by
  unfold k0_pay19; simp only [shapeCast_shapeCast]; exact val18 R v
theorem val20 : k0_pay20 v = NAR v := by
  unfold k0_pay20 NAR; simp only [shapeCast_self]
theorem val21 : shapeCast S512x1024 (k0_pay21 (shapeCast S1x1x512x1024 R hR)) h = extf .f32 R bitsLt_bf16_f32 := by
  unfold k0_pay21; simp only [shapeCast_shapeCast, shapeCast_self]
theorem val22 : shapeCast S512x1024 (k0_pay22 (shapeCast S1x1x512x1024 R hR)) h = extf .f32 R bitsLt_bf16_f32 := by
  unfold k0_pay22; simp only [shapeCast_shapeCast, shapeCast_self]
theorem val23 : shapeCast S512x1024 (k0_pay23 (shapeCast S1x1x512x1024 R hR)) h = extf .f32 R bitsLt_bf16_f32 := by
  unfold k0_pay23; simp only [shapeCast_shapeCast, shapeCast_self]
theorem val24 : shapeCast S512x1024 (k0_pay24 (shapeCast S1x1x512x1024 R hR)) h = extf .f32 R bitsLt_bf16_f32 := by
  unfold k0_pay24; simp only [shapeCast_shapeCast, shapeCast_self]
theorem val25 : shapeCast S512x1024 (k0_pay25 (shapeCast S1x1x512x1024 R hR)) h = extf .f32 R bitsLt_bf16_f32 := by
  unfold k0_pay25; simp only [shapeCast_shapeCast, shapeCast_self]
theorem val26 : shapeCast S512x1024 (k0_pay26 (shapeCast S1x1x512x1024 R hR)) h = extf .f32 R bitsLt_bf16_f32 := by
  unfold k0_pay26; simp only [shapeCast_shapeCast, shapeCast_self]

end Vals

end Cert.Wgrad

end
-- ==== Proof.PartsA.lean ====
/-
The kernel text comes in parts; this module runs the first ones, which sum the first blocks over the four devices
of a column.
-/
module

public import proofs.«01_k».proof.Proof.Ops

@[expose] public section

noncomputable section

namespace Cert.Wgrad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → S2048x2048.Idx → Elt F .f32) (dy : Dev nD → S2048x8192.Idx → Elt F .f32)
variable (K : Dev nD × CK → ℕ)

/-- The first part asks which device it runs on. -/
theorem part1 {Q : (Σ' (d0 : Dev nD) (v2 : BitVec 32) (v5 : BitVec 32) (v8 : BitVec 32) (v20 : BitVec 32) (v31 : BitVec 32) (v33 : BitVec 32),
    BitVec 32) → sProp 𝕄} (c : Dev nD) :
    iprop(∀ v, ⌜c = v.1⌝ -∗ Q v) ⊢ wpc c (k0_part1 (F := F) XM (Memref.isWhole_whole _) DYM (Memref.isWhole_whole _) OM (Memref.isWhole_whole _) DM
        (Memref.isWhole_whole _) GM (Memref.isWhole_whole _) YM (Memref.isWhole_whole _) SM (Memref.isWhole_whole _) RM (Memref.isWhole_whole _) PM
            (Memref.isWhole_whole _) cc0_scratch6 cc0_scratch7 cc0_scratch8 cc0_scratch9 cc0_scratch10 cc0_scratch11) Q := by
  rw [k0_part1_eq_skeleton]
  unfold k0_part1_skel
  simp only [Prog.lift, Prog.bind_op, Prog.bind_ret, Prog.pure_eq_ret, wp_deviceId]
  iintro Hk
  iapply (wpc_ret c _)
  iapply Hk
  ipureintro; rfl

/-- Part 2 of the kernel: what it takes and what it gives. -/
theorem part2 {Q : (Σ' (v44 : BitVec 32) (v47 : BitVec 32) (v48 : BitVec 32) (v51 : BitVec 32) (v54 : BitVec 32) (v55 : BitVec 32) (v59 : BitVec
    32) (v60 : Sems sig S_) (v68 : BitVec 32), BitVec 32) → sProp 𝕄} (c : Dev nD) (v5 : BitVec 32) (v8 : BitVec 32) (v20 : BitVec 32) (v33 : BitVec
        32) (v34 : BitVec 32)  :
    iprop(PER x dy K ∗ OWE c 0 ∗ TOK (lft c) .bar 0 0 ∗ yslots c)
      ⊢ iprop((∀ v, (⌜v.2.2.2.2.2.2.2.1 = SemArray.scalar (sig.barrier 0 rfl)⌝ ∗ OWE c 1) -∗ Q v)
        -∗ wpc c (k0_part2 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v5 v8 v20 v33 v34) Q) := by
  rw [k0_part2_eq_skeleton]
  unfold k0_part2_skel
  simp only [semSignalWord, semWaitWord, Prog.lift, Prog.bind_op, Prog.bind_ret, Prog.pure_eq_ret]
  iintro ⟨#HP, owe, t_bar0, ysl⟩ Hk
  iapply (sig_lft x dy K c (dev1 c) rfl) $$ [owe t_bar0 ysl]
  · isplitr; · iexact HP
    isplitl [owe]; · iexact owe
    isplitl [t_bar0]; · iexact t_bar0
    iexact ysl
  iintro owe
  iapply (wpc_ret c _)
  iapply Hk
  isplitr; · ipureintro; exact rfl
  iexact owe

/-- Part 3 of the kernel: what it takes and what it gives. -/
theorem part3 {Q : (PUnit) → sProp 𝕄} (c : Dev nD) (v2 : BitVec 32) (v5 : BitVec 32) (v8 : BitVec 32) (v31 : BitVec 32) (v44 : BitVec 32) (v47 :
    BitVec 32) (v48 : BitVec 32) (v55 : BitVec 32) (v68 : BitVec 32) (c4_i32_42 : BitVec 32)  :
    iprop(PER x dy K ∗ OWE c 1 ∗ TOK (rgt c) .bar 0 1 ∗ TOK (prt 0 c) .bar 0 2 ∗ xslots 0 c ∗ TOK (prt 1 c) .bar 0 3 ∗ xslots 1 c ∗ TOK (prt 2 c)
        .bar 0 4 ∗ xslots 2 c ∗ cred (tallyAt (kcell c .bar) () 5) ∗ AT c .bar 0 ∗ dySrc dy c 0 ∗ hasAny c (DYS 0) ∗ TOK c (.dy 0) 0 0 ∗ AT c (.dy
            0) 0)
      ⊢ iprop(((OWE c 5 ∗ AT c .bar 1 ∗ hasAny (rgt c) (YR 0 0) ∗ hasAny (rgt c) (YR 0 1) ∗ hasAny (rgt c) (YR 0 2) ∗ hasAny (rgt c) (YR 1 0) ∗
          hasAny (rgt c) (YR 1 1) ∗ hasAny (rgt c) (YR 1 2) ∗ hasAny (prt 0 c) (XR 0 0) ∗ hasAny (prt 0 c) (XR 1 0) ∗ hasAny (prt 1 c) (XR 0 1) ∗
              hasAny (prt 1 c) (XR 1 1) ∗ hasAny (prt 2 c) (XR 0 2) ∗ hasAny (prt 2 c) (XR 1 2) ∗ CR c (.dy 0) ∗ AT c (.dy 0) 0) -∗ Q ⟨⟩)
        -∗ wpc c (k0_part3 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v2 v5 v8 v31 v44 v47 v48
                    v55 (SemArray.scalar (sig.barrier 0 rfl)) v68 c4_i32_42) Q) := by
  rw [k0_part3_eq_skeleton]
  unfold k0_part3_skel
  simp only [semSignalWord, semWaitWord, Prog.lift, Prog.bind_op, Prog.bind_ret, Prog.pure_eq_ret]
  iintro ⟨#HP, owe, t_bar1, t_bar2, xsl0, t_bar3, xsl1, t_bar4, xsl2, pbar, at_bar, dysrc0, dys0, t_dy0, at_dy0⟩ Hk
  iapply (sig_rgt x dy K c (dev2 c) rfl) $$ [owe t_bar1]
  · isplitr; · iexact HP
    isplitl [owe]; · iexact owe
    iexact t_bar1
  iintro owe
  iapply (sig_prt0 x dy K c (dev3 c) rfl) $$ [owe t_bar2 xsl0]
  · isplitr; · iexact HP
    isplitl [owe]; · iexact owe
    isplitl [t_bar2]; · iexact t_bar2
    iexact xsl0
  iintro owe
  iapply (sig_prt1 x dy K c (dev4 c) rfl) $$ [owe t_bar3 xsl1]
  · isplitr; · iexact HP
    isplitl [owe]; · iexact owe
    isplitl [t_bar3]; · iexact t_bar3
    iexact xsl1
  iintro owe
  iapply (sig_prt2 x dy K c (dev5 c) rfl) $$ [owe t_bar4 xsl2]
  · isplitr; · iexact HP
    isplitl [owe]; · iexact owe
    isplitl [t_bar4]; · iexact t_bar4
    iexact xsl2
  iintro owe
  iapply (wait_bar x dy K (c := c) (n := 5) _ rfl (debts_above c 1 5 (by decide))) $$ [pbar owe at_bar]
  · isplitr; · iexact HP
    isplitl [pbar]; · iexact pbar
    isplitl [owe]; · iexact owe
    iexact at_bar
  iintro ⟨owe, at_bar, rsl, rxsl0, rxsl1, rxsl2⟩
  unfold yslots xslots
  icases rsl with ⟨ry00, ry01, ry02, ry10, ry11, ry12⟩
  icases rxsl0 with ⟨rx00, rx10⟩
  icases rxsl1 with ⟨rx01, rx11⟩
  icases rxsl2 with ⟨rx02, rx12⟩
  iapply (copy_dy x dy K c 0) $$ [dysrc0 dys0 t_dy0 at_dy0]
  · isplitr; · iexact HP
    isplitl [dysrc0]; · iexact dysrc0
    isplitl [dys0]; · iexact dys0
    isplitl [t_dy0]; · iexact t_dy0
    iexact at_dy0
  iintro ⟨cr_dy0, at_dy0⟩
  iapply (wpc_ret c _)
  iapply Hk
  isplitl [owe]; · iexact owe
  isplitl [at_bar]; · iexact at_bar
  isplitl [ry00]; · iexact ry00
  isplitl [ry01]; · iexact ry01
  isplitl [ry02]; · iexact ry02
  isplitl [ry10]; · iexact ry10
  isplitl [ry11]; · iexact ry11
  isplitl [ry12]; · iexact ry12
  isplitl [rx00]; · iexact rx00
  isplitl [rx10]; · iexact rx10
  isplitl [rx01]; · iexact rx01
  isplitl [rx11]; · iexact rx11
  isplitl [rx02]; · iexact rx02
  isplitl [rx12]; · iexact rx12
  isplitl [cr_dy0]; · iexact cr_dy0
  iexact at_dy0

/-- Part 4 of the kernel: what it takes and what it gives. -/
theorem part4 {Q : (Σ' (v127 : FVec F S512x1024 .bf16), Vec F S1x512x1024 .bf16) → sProp 𝕄} (c : Dev nD) (v2 : BitVec 32) (v47 : BitVec 32)  :
    iprop(PER x dy K ∗ dySrc dy c 1 ∗ hasAny c (DYS 1) ∗ TOK c (.dy 1) 0 0 ∗ AT c (.dy 1) 0 ∗ CR c (.dy 0) ∗ OWE c 5 ∗ AT c (.dy 0) 0 ∗ has c XM (x
        c) ∗ hasAny c (STG 0))
      ⊢ iprop((∀ v, (⌜v.1 = SND x dy 0 c 0⌝ ∗ CR c (.dy 1) ∗ AT c (.dy 1) 0 ∗ OWE c 5 ∗ AT c (.dy 0) 1 ∗ dySrc dy c 0 ∗ has c XM (x c) ∗ has c (DYS
          0) (DYB dy c 0) ∗ hasAny c (STG 0)) -∗ Q v)
        -∗ wpc c (k0_part4 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v2 v47) Q) := by
  rw [k0_part4_eq_skeleton]
  unfold k0_part4_skel
  simp only [semSignalWord, semWaitWord, Prog.lift, Prog.bind_op, Prog.bind_ret, Prog.pure_eq_ret]
  iintro ⟨#HP, dysrc1, dys1, t_dy1, at_dy1, cr_dy0, owe, at_dy0, xm, stg0⟩ Hk
  iapply (copy_dy x dy K c 1) $$ [dysrc1 dys1 t_dy1 at_dy1]
  · isplitr; · iexact HP
    isplitl [dysrc1]; · iexact dysrc1
    isplitl [dys1]; · iexact dys1
    isplitl [t_dy1]; · iexact t_dy1
    iexact at_dy1
  iintro ⟨cr_dy1, at_dy1⟩
  iapply (wait_dy x dy K c 0 5 (by decide)) $$ [cr_dy0 owe at_dy0]
  · isplitr; · iexact HP
    isplitl [cr_dy0]; · iexact cr_dy0
    isplitl [owe]; · iexact owe
    iexact at_dy0
  iintro ⟨owe, at_dy0, dys0, dysrc0⟩
  iapply (load_x c) $$ xm
  iintro xm
  iapply (load_dy c 0) $$ dys0
  iintro dys0
  iapply (load_stg c 0) $$ stg0
  iintro %w18 stg0
  iapply (wpc_ret c _)
  iapply Hk
  isplitr; · ipureintro; exact val1 (XK x c 3) (DYB dy c 0)
  isplitl [cr_dy1]; · iexact cr_dy1
  isplitl [at_dy1]; · iexact at_dy1
  isplitl [owe]; · iexact owe
  isplitl [at_dy0]; · iexact at_dy0
  isplitl [dysrc0]; · iexact dysrc0
  isplitl [xm]; · iexact xm
  isplitl [dys0]; · iexact dys0
  iexact stg0

/-- Part 5 of the kernel: what it takes and what it gives. -/
theorem part5 {Q : (Σ' (v153 : BitVec 32) (v154 : BitVec 32) (v155 : BitVec 1), BitVec 1) → sProp 𝕄} (c : Dev nD) (v2 : BitVec 32) (v5 : BitVec 32)
    (v8 : BitVec 32) (v31 : BitVec 32) (v47 : BitVec 32) (v127 : FVec F S512x1024 .bf16) (v128 : Vec F S1x512x1024 .bf16) (hv : v127 = SND x dy 0 c
        0) :
    iprop(PER x dy K ∗ hasAny c (STG 0) ∗ hasAny (rgt c) (YR 0 0) ∗ OWE c 5 ∗ TOK c (.ys 0) 0 0 ∗ AT c (.ys 0) 0 ∗ TOK (rgt c) (.yr 0 0) 0 0 ∗ CR c
        (.dy 1) ∗ AT c (.dy 1) 0)
      ⊢ iprop((∀ v, (CR c (.ys 0) ∗ AT c (.ys 0) 0 ∗ OWE c 6 ∗ AT c (.dy 1) 1 ∗ has c (DYS 1) (DYB dy c 1) ∗ dySrc dy c 1) -∗ Q v)
        -∗ wpc c (k0_part5 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v2 v5 v8 v31 v47 v127
                    v128) Q) := by
  rw [k0_part5_eq_skeleton]
  unfold k0_part5_skel
  simp only [semSignalWord, semWaitWord, Prog.lift, Prog.bind_op, Prog.bind_ret, Prog.pure_eq_ret]
  iintro ⟨#HP, stg0, ry00, owe, t_ys0_0, at_ys0, t_yr00, cr_dy1, at_dy1⟩ Hk
  iapply (store_stg c 0 (SND x dy 0 c 0) ((val2 v127).trans hv)) $$ stg0
  iintro stg0
  iapply (send_y x dy K c 0 0 0 5 (by decide) (dev6 c) rfl) $$ [stg0 ry00 owe t_ys0_0 at_ys0 t_yr00]
  · isplitr; · iexact HP
    isplitl [stg0]; · iexact stg0
    isplitl [ry00]; · iexact ry00
    isplitl [owe]; · iexact owe
    isplitl [t_ys0_0]; · iexact t_ys0_0
    isplitl [at_ys0]; · iexact at_ys0
    iexact t_yr00
  iintro ⟨cr_ys0, at_ys0, owe⟩
  iapply (wait_dy x dy K c 1 6 (by decide)) $$ [cr_dy1 owe at_dy1]
  · isplitr; · iexact HP
    isplitl [cr_dy1]; · iexact cr_dy1
    isplitl [owe]; · iexact owe
    iexact at_dy1
  iintro ⟨owe, at_dy1, dys1, dysrc1⟩
  iapply (wpc_ret c _)
  iapply Hk
  isplitl [cr_ys0]; · iexact cr_ys0
  isplitl [at_ys0]; · iexact at_ys0
  isplitl [owe]; · iexact owe
  isplitl [at_dy1]; · iexact at_dy1
  isplitl [dys1]; · iexact dys1
  iexact dysrc1

/-- Part 6 of the kernel: what it takes and what it gives. -/
theorem part6 {Q : (Σ' (v187 : BitVec 32), BitVec 32) → sProp 𝕄} (c : Dev nD) (v2 : BitVec 32) (v5 : BitVec 32) (v8 : BitVec 32) (v31 : BitVec 32)
    (v153 : BitVec 32) (v154 : BitVec 32) (v155 : BitVec 1) (v158 : BitVec 1)  :
    iprop(PER x dy K ∗ has c XM (x c) ∗ has c (DYS 1) (DYB dy c 1) ∗ hasAny c (STG 1) ∗ hasAny (rgt c) (YR 1 0) ∗ OWE c 6 ∗ TOK c (.ys 1) 0 0 ∗ AT
        c (.ys 1) 0 ∗ TOK (rgt c) (.yr 1 0) 0 0)
      ⊢ iprop((∀ v, (has c XM (x c) ∗ has c (DYS 1) (DYB dy c 1) ∗ CR c (.ys 1) ∗ AT c (.ys 1) 0 ∗ OWE c 7) -∗ Q v)
        -∗ wpc c (k0_part6 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v2 v5 v8 v31 v153 v154
                    v155 v158) Q) := by
  rw [k0_part6_eq_skeleton]
  unfold k0_part6_skel
  simp only [semSignalWord, semWaitWord, Prog.lift, Prog.bind_op, Prog.bind_ret, Prog.pure_eq_ret]
  iintro ⟨#HP, xm, dys1, stg1, ry10, owe, t_ys1_0, at_ys1, t_yr10⟩ Hk
  iapply (load_x c) $$ xm
  iintro xm
  iapply (load_dy c 1) $$ dys1
  iintro dys1
  iapply (load_stg c 1) $$ stg1
  iintro %w5 stg1
  iapply (store_stg c 1 (SND x dy 0 c 1) (val3 (XK x c 3) (DYB dy c 1))) $$ stg1
  iintro stg1
  iapply (send_y x dy K c 1 0 0 6 (by decide) (dev7 c) rfl) $$ [stg1 ry10 owe t_ys1_0 at_ys1 t_yr10]
  · isplitr; · iexact HP
    isplitl [stg1]; · iexact stg1
    isplitl [ry10]; · iexact ry10
    isplitl [owe]; · iexact owe
    isplitl [t_ys1_0]; · iexact t_ys1_0
    isplitl [at_ys1]; · iexact at_ys1
    iexact t_yr10
  iintro ⟨cr_ys1, at_ys1, owe⟩
  iapply (wpc_ret c _)
  iapply Hk
  isplitl [xm]; · iexact xm
  isplitl [dys1]; · iexact dys1
  isplitl [cr_ys1]; · iexact cr_ys1
  isplitl [at_ys1]; · iexact at_ys1
  iexact owe

/-- Part 7 of the kernel: what it takes and what it gives. -/
theorem part7 {Q : (FVec F S512x1024 .f32) → sProp 𝕄} (c : Dev nD) (v5 : BitVec 32) (v8 : BitVec 32) (v31 : BitVec 32) (v187 : BitVec 32) (v189 :
    BitVec 32)  :
    iprop(PER x dy K ∗ has c XM (x c) ∗ has c (DYS 0) (DYB dy c 0) ∗ CR c (.yr 0 0) ∗ OWE c 7 ∗ AT c (.yr 0 0) 0)
      ⊢ iprop((∀ v, (⌜v = ADD (DOT (XK x c 2) (DYB dy c 0)) (SND x dy 0 (lft c) 0)⌝ ∗ has c XM (x c) ∗ has c (DYS 0) (DYB dy c 0) ∗ OWE c 7 ∗ AT c
          (.yr 0 0) 1 ∗ has c (YR 0 0) (SND x dy 0 (lft c) 0)) -∗ Q v)
        -∗ wpc c (k0_part7 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v5 v8 v31 v187 v189) Q)
                    := by
  rw [k0_part7_eq_skeleton]
  unfold k0_part7_skel
  simp only [semSignalWord, semWaitWord, Prog.lift, Prog.bind_op, Prog.bind_ret, Prog.pure_eq_ret]
  iintro ⟨#HP, xm, dys0, cr_yr00, owe, at_yr00⟩ Hk
  iapply (load_x c) $$ xm
  iintro xm
  iapply (load_dy c 0) $$ dys0
  iintro dys0
  iapply (wait_yr x dy K c 0 0 7 (by decide)) $$ [cr_yr00 owe at_yr00]
  · isplitr; · iexact HP
    isplitl [cr_yr00]; · iexact cr_yr00
    isplitl [owe]; · iexact owe
    iexact at_yr00
  iintro ⟨owe, at_yr00, ly00⟩
  iapply (load_yr c 0 0) $$ ly00
  iintro ly00
  iapply (wpc_ret c _)
  iapply Hk
  isplitr; · ipureintro; exact val4 (XK x c 2) (DYB dy c 0) (SND x dy 0 (lft c) 0)
  isplitl [xm]; · iexact xm
  isplitl [dys0]; · iexact dys0
  isplitl [owe]; · iexact owe
  isplitl [at_yr00]; · iexact at_yr00
  iexact ly00

/-- Part 8 of the kernel: what it takes and what it gives. -/
theorem part8 {Q : (Σ' (v245 : BitVec 32) (c4_i32_197 : BitVec 32) (v246 : BitVec 1), BitVec 32) → sProp 𝕄} (c : Dev nD) (v2 : BitVec 32) (v5 :
    BitVec 32) (v8 : BitVec 32) (v31 : BitVec 32) (v220 : FVec F S512x1024 .f32) (hv : v220 = ADD (DOT (XK x c 2) (DYB dy c 0)) (SND x dy 0 (lft c)
        0)) :
    iprop(PER x dy K ∗ CR c (.ys 0) ∗ OWE c 7 ∗ AT c (.ys 0) 0 ∗ hasAny (rgt c) (YR 0 1) ∗ TOK c (.ys 0) 1 0 ∗ TOK (rgt c) (.yr 0 1) 0 0)
      ⊢ iprop((∀ v, (CR c (.ys 0) ∗ AT c (.ys 0) 1 ∗ OWE c 8) -∗ Q v)
        -∗ wpc c (k0_part8 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v2 v5 v8 v31 v220) Q) := by
  rw [k0_part8_eq_skeleton]
  unfold k0_part8_skel
  simp only [semSignalWord, semWaitWord, Prog.lift, Prog.bind_op, Prog.bind_ret, Prog.pure_eq_ret]
  iintro ⟨#HP, cr_ys0, owe, at_ys0, ry01, t_ys0_1, t_yr01⟩ Hk
  iapply (wait_ys x dy K c 0 0 7 (by decide) (by decide)) $$ [cr_ys0 owe at_ys0]
  · isplitr; · iexact HP
    isplitl [cr_ys0]; · iexact cr_ys0
    isplitl [owe]; · iexact owe
    iexact at_ys0
  iintro ⟨owe, at_ys0, stg0⟩
  iapply (load_stg c 0) $$ stg0
  iintro %w7 stg0
  iapply (store_stg c 0 (SND x dy 1 c 0) ((val5 v220).trans (congrArg NAR hv))) $$ stg0
  iintro stg0
  iapply (send_y x dy K c 0 1 1 7 (by decide) (dev8 c) rfl) $$ [stg0 ry01 owe t_ys0_1 at_ys0 t_yr01]
  · isplitr; · iexact HP
    isplitl [stg0]; · iexact stg0
    isplitl [ry01]; · iexact ry01
    isplitl [owe]; · iexact owe
    isplitl [t_ys0_1]; · iexact t_ys0_1
    isplitl [at_ys0]; · iexact at_ys0
    iexact t_yr01
  iintro ⟨cr_ys0, at_ys0, owe⟩
  iapply (wpc_ret c _)
  iapply Hk
  isplitl [cr_ys0]; · iexact cr_ys0
  isplitl [at_ys0]; · iexact at_ys0
  iexact owe

/-- Part 9 of the kernel: what it takes and what it gives. -/
theorem part9 {Q : (FVec F S512x1024 .f32) → sProp 𝕄} (c : Dev nD) (v5 : BitVec 32) (v8 : BitVec 32) (v31 : BitVec 32) (v245 : BitVec 32)
    (c4_i32_197 : BitVec 32) (v246 : BitVec 1) (c1_i32_199 : BitVec 32)  :
    iprop(PER x dy K ∗ has c XM (x c) ∗ has c (DYS 1) (DYB dy c 1) ∗ CR c (.yr 1 0) ∗ OWE c 8 ∗ AT c (.yr 1 0) 0)
      ⊢ iprop((∀ v, (⌜v = ADD (DOT (XK x c 2) (DYB dy c 1)) (SND x dy 0 (lft c) 1)⌝ ∗ has c XM (x c) ∗ has c (DYS 1) (DYB dy c 1) ∗ OWE c 8 ∗ AT c
          (.yr 1 0) 1 ∗ has c (YR 1 0) (SND x dy 0 (lft c) 1)) -∗ Q v)
        -∗ wpc c (k0_part9 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v5 v8 v31 v245
                    c4_i32_197 v246 c1_i32_199) Q) := by
  rw [k0_part9_eq_skeleton]
  unfold k0_part9_skel
  simp only [semSignalWord, semWaitWord, Prog.lift, Prog.bind_op, Prog.bind_ret, Prog.pure_eq_ret]
  iintro ⟨#HP, xm, dys1, cr_yr10, owe, at_yr10⟩ Hk
  iapply (load_x c) $$ xm
  iintro xm
  iapply (load_dy c 1) $$ dys1
  iintro dys1
  iapply (wait_yr x dy K c 1 0 8 (by decide)) $$ [cr_yr10 owe at_yr10]
  · isplitr; · iexact HP
    isplitl [cr_yr10]; · iexact cr_yr10
    isplitl [owe]; · iexact owe
    iexact at_yr10
  iintro ⟨owe, at_yr10, ly10⟩
  iapply (load_yr c 1 0) $$ ly10
  iintro ly10
  iapply (wpc_ret c _)
  iapply Hk
  isplitr; · ipureintro; exact val6 (XK x c 2) (DYB dy c 1) (SND x dy 0 (lft c) 1)
  isplitl [xm]; · iexact xm
  isplitl [dys1]; · iexact dys1
  isplitl [owe]; · iexact owe
  isplitl [at_yr10]; · iexact at_yr10
  iexact ly10

/-- Part 10 of the kernel: what it takes and what it gives. -/
theorem part10 {Q : (Σ' (v303 : BitVec 32) (c4_i32_256 : BitVec 32), BitVec 1) → sProp 𝕄} (c : Dev nD) (v2 : BitVec 32) (v5 : BitVec 32) (v8 :
    BitVec 32) (v31 : BitVec 32) (v278 : FVec F S512x1024 .f32) (hv : v278 = ADD (DOT (XK x c 2) (DYB dy c 1)) (SND x dy 0 (lft c) 1)) :
    iprop(PER x dy K ∗ CR c (.ys 1) ∗ OWE c 8 ∗ AT c (.ys 1) 0 ∗ hasAny (rgt c) (YR 1 1) ∗ TOK c (.ys 1) 1 0 ∗ TOK (rgt c) (.yr 1 1) 0 0)
      ⊢ iprop((∀ v, (CR c (.ys 1) ∗ AT c (.ys 1) 1 ∗ OWE c 9) -∗ Q v)
        -∗ wpc c (k0_part10 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v2 v5 v8 v31 v278) Q) := by
  rw [k0_part10_eq_skeleton]
  unfold k0_part10_skel
  simp only [semSignalWord, semWaitWord, Prog.lift, Prog.bind_op, Prog.bind_ret, Prog.pure_eq_ret]
  iintro ⟨#HP, cr_ys1, owe, at_ys1, ry11, t_ys1_1, t_yr11⟩ Hk
  iapply (wait_ys x dy K c 1 0 8 (by decide) (by decide)) $$ [cr_ys1 owe at_ys1]
  · isplitr; · iexact HP
    isplitl [cr_ys1]; · iexact cr_ys1
    isplitl [owe]; · iexact owe
    iexact at_ys1
  iintro ⟨owe, at_ys1, stg1⟩
  iapply (load_stg c 1) $$ stg1
  iintro %w7 stg1
  iapply (store_stg c 1 (SND x dy 1 c 1) ((val7 v278).trans (congrArg NAR hv))) $$ stg1
  iintro stg1
  iapply (send_y x dy K c 1 1 1 8 (by decide) (dev9 c) rfl) $$ [stg1 ry11 owe t_ys1_1 at_ys1 t_yr11]
  · isplitr; · iexact HP
    isplitl [stg1]; · iexact stg1
    isplitl [ry11]; · iexact ry11
    isplitl [owe]; · iexact owe
    isplitl [t_ys1_1]; · iexact t_ys1_1
    isplitl [at_ys1]; · iexact at_ys1
    iexact t_yr11
  iintro ⟨cr_ys1, at_ys1, owe⟩
  iapply (wpc_ret c _)
  iapply Hk
  isplitl [cr_ys1]; · iexact cr_ys1
  isplitl [at_ys1]; · iexact at_ys1
  iexact owe

/-- Part 11 of the kernel: what it takes and what it gives. -/
theorem part11 {Q : (Σ' (v320 : FVec F S512x1024 .f32), FVec F S512x1024 .f32) → sProp 𝕄} (c : Dev nD) (v5 : BitVec 32) (v8 : BitVec 32) (v31 :
    BitVec 32) (v303 : BitVec 32) (c4_i32_256 : BitVec 32) (v304 : BitVec 1)  :
    iprop(PER x dy K ∗ has c XM (x c) ∗ has c (DYS 0) (DYB dy c 0) ∗ CR c (.yr 0 1) ∗ OWE c 9 ∗ AT c (.yr 0 1) 0)
      ⊢ iprop((∀ v, (⌜v.1 = DOT (XK x c 1) (DYB dy c 0) ∧ v.2 = extf .f32 (SND x dy 1 (lft c) 0) bitsLt_bf16_f32⌝ ∗ has c XM (x c) ∗ has c (DYS 0)
          (DYB dy c 0) ∗ OWE c 9 ∗ AT c (.yr 0 1) 1 ∗ has c (YR 0 1) (SND x dy 1 (lft c) 0)) -∗ Q v)
        -∗ wpc c (k0_part11 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v5 v8 v31 v303
                    c4_i32_256 v304) Q) := by
  rw [k0_part11_eq_skeleton]
  unfold k0_part11_skel
  simp only [semSignalWord, semWaitWord, Prog.lift, Prog.bind_op, Prog.bind_ret, Prog.pure_eq_ret]
  iintro ⟨#HP, xm, dys0, cr_yr01, owe, at_yr01⟩ Hk
  iapply (load_x c) $$ xm
  iintro xm
  iapply (load_dy c 0) $$ dys0
  iintro dys0
  iapply (wait_yr x dy K c 0 1 9 (by decide)) $$ [cr_yr01 owe at_yr01]
  · isplitr; · iexact HP
    isplitl [cr_yr01]; · iexact cr_yr01
    isplitl [owe]; · iexact owe
    iexact at_yr01
  iintro ⟨owe, at_yr01, ly01⟩
  iapply (load_yr c 0 1) $$ ly01
  iintro ly01
  iapply (wpc_ret c _)
  iapply Hk
  isplitr; · ipureintro; exact ⟨val8 (XK x c 1) (DYB dy c 0), val9 (SND x dy 1 (lft c) 0)⟩
  isplitl [xm]; · iexact xm
  isplitl [dys0]; · iexact dys0
  isplitl [owe]; · iexact owe
  isplitl [at_yr01]; · iexact at_yr01
  iexact ly01

/-- Part 12 of the kernel: what it takes and what it gives. -/
theorem part12 {Q : (Σ' (v361 : BitVec 32) (c4_i32_315 : BitVec 32), BitVec 32) → sProp 𝕄} (c : Dev nD) (v2 : BitVec 32) (v5 : BitVec 32) (v8 :
    BitVec 32) (v31 : BitVec 32) (v320 : FVec F S512x1024 .f32) (v335 : FVec F S512x1024 .f32) (hv : v320 = DOT (XK x c 1) (DYB dy c 0) ∧ v335 =
        extf .f32 (SND x dy 1 (lft c) 0) bitsLt_bf16_f32) :
    iprop(PER x dy K ∗ CR c (.ys 0) ∗ OWE c 9 ∗ AT c (.ys 0) 1 ∗ hasAny (rgt c) (YR 0 2) ∗ TOK c (.ys 0) 2 0 ∗ TOK (rgt c) (.yr 0 2) 0 0)
      ⊢ iprop((∀ v, (CR c (.ys 0) ∗ AT c (.ys 0) 2 ∗ OWE c 10) -∗ Q v)
        -∗ wpc c (k0_part12 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v2 v5 v8 v31 v320 v335)
                    Q) := by
  rw [k0_part12_eq_skeleton]
  unfold k0_part12_skel
  simp only [semSignalWord, semWaitWord, Prog.lift, Prog.bind_op, Prog.bind_ret, Prog.pure_eq_ret]
  iintro ⟨#HP, cr_ys0, owe, at_ys0, ry02, t_ys0_2, t_yr02⟩ Hk
  iapply (wait_ys x dy K c 0 1 9 (by decide) (by decide)) $$ [cr_ys0 owe at_ys0]
  · isplitr; · iexact HP
    isplitl [cr_ys0]; · iexact cr_ys0
    isplitl [owe]; · iexact owe
    iexact at_ys0
  iintro ⟨owe, at_ys0, stg0⟩
  iapply (load_stg c 0) $$ stg0
  iintro %w7 stg0
  iapply (store_stg c 0 (SND x dy 2 c 0) (by rw [val10, hv.1, hv.2]; rfl)) $$ stg0
  iintro stg0
  iapply (send_y x dy K c 0 2 2 9 (by decide) (dev10 c) rfl) $$ [stg0 ry02 owe t_ys0_2 at_ys0 t_yr02]
  · isplitr; · iexact HP
    isplitl [stg0]; · iexact stg0
    isplitl [ry02]; · iexact ry02
    isplitl [owe]; · iexact owe
    isplitl [t_ys0_2]; · iexact t_ys0_2
    isplitl [at_ys0]; · iexact at_ys0
    iexact t_yr02
  iintro ⟨cr_ys0, at_ys0, owe⟩
  iapply (wpc_ret c _)
  iapply Hk
  isplitl [cr_ys0]; · iexact cr_ys0
  isplitl [at_ys0]; · iexact at_ys0
  iexact owe

/-- Part 13 of the kernel: what it takes and what it gives. -/
theorem part13 {Q : (Σ' (v378 : FVec F S512x1024 .f32), FVec F S512x1024 .bf16) → sProp 𝕄} (c : Dev nD) (v5 : BitVec 32) (v8 : BitVec 32) (v31 :
    BitVec 32) (v361 : BitVec 32) (c4_i32_315 : BitVec 32) (c0_i32_316 : BitVec 32)  :
    iprop(PER x dy K ∗ has c XM (x c) ∗ has c (DYS 1) (DYB dy c 1) ∗ CR c (.yr 1 1) ∗ OWE c 10 ∗ AT c (.yr 1 1) 0)
      ⊢ iprop((∀ v, (⌜v.1 = DOT (XK x c 1) (DYB dy c 1) ∧ v.2 = SND x dy 1 (lft c) 1⌝ ∗ has c XM (x c) ∗ has c (DYS 1) (DYB dy c 1) ∗ OWE c 10 ∗ AT
          c (.yr 1 1) 1 ∗ has c (YR 1 1) (SND x dy 1 (lft c) 1)) -∗ Q v)
        -∗ wpc c (k0_part13 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v5 v8 v31 v361
                    c4_i32_315 c0_i32_316) Q) := by
  rw [k0_part13_eq_skeleton]
  unfold k0_part13_skel
  simp only [semSignalWord, semWaitWord, Prog.lift, Prog.bind_op, Prog.bind_ret, Prog.pure_eq_ret]
  iintro ⟨#HP, xm, dys1, cr_yr11, owe, at_yr11⟩ Hk
  iapply (load_x c) $$ xm
  iintro xm
  iapply (load_dy c 1) $$ dys1
  iintro dys1
  iapply (wait_yr x dy K c 1 1 10 (by decide)) $$ [cr_yr11 owe at_yr11]
  · isplitr; · iexact HP
    isplitl [cr_yr11]; · iexact cr_yr11
    isplitl [owe]; · iexact owe
    iexact at_yr11
  iintro ⟨owe, at_yr11, ly11⟩
  iapply (load_yr c 1 1) $$ ly11
  iintro ly11
  iapply (wpc_ret c _)
  iapply Hk
  isplitr; · ipureintro; exact ⟨val11 (XK x c 1) (DYB dy c 1), val12 (SND x dy 1 (lft c) 1)⟩
  isplitl [xm]; · iexact xm
  isplitl [dys1]; · iexact dys1
  isplitl [owe]; · iexact owe
  isplitl [at_yr11]; · iexact at_yr11
  iexact ly11

/-- Part 14 of the kernel: what it takes and what it gives. -/
theorem part14 {Q : (BitVec 32) → sProp 𝕄} (c : Dev nD) (v2 : BitVec 32) (v5 : BitVec 32) (v8 : BitVec 32) (v31 : BitVec 32) (v378 : FVec F
    S512x1024 .f32) (v392 : FVec F S512x1024 .bf16) (hv : v378 = DOT (XK x c 1) (DYB dy c 1) ∧ v392 = SND x dy 1 (lft c) 1) :
    iprop(PER x dy K ∗ CR c (.ys 1) ∗ OWE c 10 ∗ AT c (.ys 1) 1 ∗ hasAny (rgt c) (YR 1 2) ∗ TOK c (.ys 1) 2 0 ∗ TOK (rgt c) (.yr 1 2) 0 0)
      ⊢ iprop((∀ v, (CR c (.ys 1) ∗ AT c (.ys 1) 2 ∗ OWE c 11) -∗ Q v)
        -∗ wpc c (k0_part14 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v2 v5 v8 v31 v378 v392)
                    Q) := by
  rw [k0_part14_eq_skeleton]
  unfold k0_part14_skel
  simp only [semSignalWord, semWaitWord, Prog.lift, Prog.bind_op, Prog.bind_ret, Prog.pure_eq_ret]
  iintro ⟨#HP, cr_ys1, owe, at_ys1, ry12, t_ys1_2, t_yr12⟩ Hk
  iapply (wait_ys x dy K c 1 1 10 (by decide) (by decide)) $$ [cr_ys1 owe at_ys1]
  · isplitr; · iexact HP
    isplitl [cr_ys1]; · iexact cr_ys1
    isplitl [owe]; · iexact owe
    iexact at_ys1
  iintro ⟨owe, at_ys1, stg1⟩
  iapply (load_stg c 1) $$ stg1
  iintro %w7 stg1
  iapply (store_stg c 1 (SND x dy 2 c 1) (by rw [val13, hv.1, hv.2]; rfl)) $$ stg1
  iintro stg1
  iapply (send_y x dy K c 1 2 2 10 (by decide) (dev11 c) rfl) $$ [stg1 ry12 owe t_ys1_2 at_ys1 t_yr12]
  · isplitr; · iexact HP
    isplitl [stg1]; · iexact stg1
    isplitl [ry12]; · iexact ry12
    isplitl [owe]; · iexact owe
    isplitl [t_ys1_2]; · iexact t_ys1_2
    isplitl [at_ys1]; · iexact at_ys1
    iexact t_yr12
  iintro ⟨cr_ys1, at_ys1, owe⟩
  iapply (wpc_ret c _)
  iapply Hk
  isplitl [cr_ys1]; · iexact cr_ys1
  isplitl [at_ys1]; · iexact at_ys1
  iexact owe

end Cert.Wgrad

end
-- ==== Proof.PartsB.lean ====
/-
The later parts of the kernel: the last sums, the trade with the three partners and the writing of the output.
-/
module

public import proofs.«01_k».proof.Proof.Ops

@[expose] public section

noncomputable section

namespace Cert.Wgrad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → S2048x2048.Idx → Elt F .f32) (dy : Dev nD → S2048x8192.Idx → Elt F .f32)
variable (K : Dev nD × CK → ℕ)

/-- Part 15 of the kernel: what it takes and what it gives. -/
theorem part15 {Q : (FVec F S512x1024 .f32) → sProp 𝕄} (c : Dev nD) (v5 : BitVec 32) (v8 : BitVec 32) (v31 : BitVec 32) (v47 : BitVec 32) (v419 :
    BitVec 32)  :
    iprop(PER x dy K ∗ has c XM (x c) ∗ has c (DYS 0) (DYB dy c 0) ∗ CR c (.yr 0 2) ∗ OWE c 11 ∗ AT c (.yr 0 2) 0 ∗ hasAny c (OST 0))
      ⊢ iprop((∀ v, (⌜v = FIN x dy c 0⌝ ∗ has c XM (x c) ∗ has c (DYS 0) (DYB dy c 0) ∗ OWE c 11 ∗ AT c (.yr 0 2) 1 ∗ has c (YR 0 2) (SND x dy 2
          (lft c) 0) ∗ has c (OST 0) (OV x dy c 0 0)) -∗ Q v)
        -∗ wpc c (k0_part15 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v5 v8 v31 v47 v419) Q)
                    := by
  rw [k0_part15_eq_skeleton]
  unfold k0_part15_skel
  simp only [semSignalWord, semWaitWord, Prog.lift, Prog.bind_op, Prog.bind_ret, Prog.pure_eq_ret]
  iintro ⟨#HP, xm, dys0, cr_yr02, owe, at_yr02, ost0⟩ Hk
  iapply (load_x c) $$ xm
  iintro xm
  iapply (load_dy c 0) $$ dys0
  iintro dys0
  iapply (wait_yr x dy K c 0 2 11 (by decide)) $$ [cr_yr02 owe at_yr02]
  · isplitr; · iexact HP
    isplitl [cr_yr02]; · iexact cr_yr02
    isplitl [owe]; · iexact owe
    iexact at_yr02
  iintro ⟨owe, at_yr02, ly02⟩
  iapply (load_yr c 0 2) $$ ly02
  iintro ly02
  iapply (load_ost c 0) $$ ost0
  iintro %w13 ost0
  iapply (store_ost c 0 (OV x dy c 0 0) (val15 (XK x c 0) (DYB dy c 0) (SND x dy 2 (lft c) 0))) $$ ost0
  iintro ost0
  iapply (wpc_ret c _)
  iapply Hk
  isplitr; · ipureintro; exact val14 (XK x c 0) (DYB dy c 0) (SND x dy 2 (lft c) 0)
  isplitl [xm]; · iexact xm
  isplitl [dys0]; · iexact dys0
  isplitl [owe]; · iexact owe
  isplitl [at_yr02]; · iexact at_yr02
  isplitl [ly02]; · iexact ly02
  iexact ost0

/-- Part 16 of the kernel: what it takes and what it gives. -/
theorem part16 {Q : (PUnit) → sProp 𝕄} (c : Dev nD) (v2 : BitVec 32) (v5 : BitVec 32) (v8 : BitVec 32) (v44 : BitVec 32) (v48 : BitVec 32) (v441 :
    FVec F S512x1024 .f32) (hv : v441 = FIN x dy c 0) :
    iprop(PER x dy K ∗ has c (OST 0) (OV x dy c 0 0) ∗ hasAny c (OUTS c 0 0) ∗ TOK c (.out 0) 0 0 ∗ AT c (.out 0) 0 ∗ hasAny c SM ∗ hasAny (prt 0
        c) (XR 0 0) ∗ OWE c 11 ∗ TOK c (.xs 0 0) 0 0 ∗ AT c (.xs 0 0) 0 ∗ TOK (prt 0 c) (.xr 0 0) 0 0)
      ⊢ iprop(((CR c (.out 0) ∗ AT c (.out 0) 0 ∗ owns (c : Thread nD τ) SM (xsh 1) (XSV x dy c 0) ∗ owns (c : Thread nD τ) SM (xsh 2) (XSV x dy c
          0) ∗ CR c (.xs 0 0) ∗ AT c (.xs 0 0) 0 ∗ OWE c 12) -∗ Q ⟨⟩)
        -∗ wpc c (k0_part16 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v2 v5 v8 v44 v48 v441)
                    Q) := by
  rw [k0_part16_eq_skeleton]
  unfold k0_part16_skel
  simp only [semSignalWord, semWaitWord, Prog.lift, Prog.bind_op, Prog.bind_ret, Prog.pure_eq_ret]
  iintro ⟨#HP, ost0, o00, t_out0_0, at_out0, sm, rx00, owe, t_xs00, at_xs00, t_xr00⟩ Hk
  iapply (copy_out x dy K c 0 0 (by decide) 0 0 rfl) $$ [ost0 o00 t_out0_0 at_out0]
  · isplitr; · iexact HP
    isplitl [ost0]; · iexact ost0
    isplitl [o00]; · iexact o00
    isplitl [t_out0_0]; · iexact t_out0_0
    iexact at_out0
  iintro ⟨cr_out0, at_out0⟩
  iapply (load_send c (fun _ => rfl)) $$ sm
  iintro sm
  iapply (store_sm c (XSV x dy c 0) ((val16 v441).trans (congrArg NAR hv))) $$ sm
  iintro sm
  ihave sm := (split_sm c _) $$ sm
  icases sm with ⟨sm0, sm1, sm2⟩
  iapply (send_x x dy K c 0 0 11 (dev12 c) rfl) $$ [sm0 rx00 owe t_xs00 at_xs00 t_xr00]
  · isplitr; · iexact HP
    isplitl [sm0]; · iexact sm0
    isplitl [rx00]; · iexact rx00
    isplitl [owe]; · iexact owe
    isplitl [t_xs00]; · iexact t_xs00
    isplitl [at_xs00]; · iexact at_xs00
    iexact t_xr00
  iintro ⟨cr_xs00, at_xs00, owe⟩
  iapply (wpc_ret c _)
  iapply Hk
  isplitl [cr_out0]; · iexact cr_out0
  isplitl [at_out0]; · iexact at_out0
  isplitl [sm1]; · iexact sm1
  isplitl [sm2]; · iexact sm2
  isplitl [cr_xs00]; · iexact cr_xs00
  isplitl [at_xs00]; · iexact at_xs00
  iexact owe

/-- Part 17 of the kernel: what it takes and what it gives. -/
theorem part17 {Q : (FVec F S512x1024 .f32) → sProp 𝕄} (c : Dev nD) (v2 : BitVec 32) (v5 : BitVec 32) (v8 : BitVec 32) (v31 : BitVec 32) (v44 :
    BitVec 32) (v55 : BitVec 32)  :
    iprop(PER x dy K ∗ owns (c : Thread nD τ) SM (xsh 1) (XSV x dy c 0) ∗ hasAny (prt 1 c) (XR 0 1) ∗ OWE c 12 ∗ TOK c (.xs 0 1) 0 0 ∗ AT c (.xs 0
        1) 0 ∗ TOK (prt 1 c) (.xr 0 1) 0 0 ∗ owns (c : Thread nD τ) SM (xsh 2) (XSV x dy c 0) ∗ hasAny (prt 2 c) (XR 0 2) ∗ TOK c (.xs 0 2) 0 0 ∗
            AT c (.xs 0 2) 0 ∗ TOK (prt 2 c) (.xr 0 2) 0 0 ∗ has c XM (x c) ∗ has c (DYS 1) (DYB dy c 1))
      ⊢ iprop((∀ v, (⌜v = DOT (XK x c 0) (DYB dy c 1)⌝ ∗ CR c (.xs 0 1) ∗ AT c (.xs 0 1) 0 ∗ CR c (.xs 0 2) ∗ AT c (.xs 0 2) 0 ∗ OWE c 14 ∗ has c
          XM (x c) ∗ has c (DYS 1) (DYB dy c 1)) -∗ Q v)
        -∗ wpc c (k0_part17 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v2 v5 v8 v31 v44 v55) Q)
                    := by
  rw [k0_part17_eq_skeleton]
  unfold k0_part17_skel
  simp only [semSignalWord, semWaitWord, Prog.lift, Prog.bind_op, Prog.bind_ret, Prog.pure_eq_ret]
  iintro ⟨#HP, sm1, rx01, owe, t_xs01, at_xs01, t_xr01, sm2, rx02, t_xs02, at_xs02, t_xr02, xm, dys1⟩ Hk
  iapply (send_x x dy K c 0 1 12 (dev13 c) rfl) $$ [sm1 rx01 owe t_xs01 at_xs01 t_xr01]
  · isplitr; · iexact HP
    isplitl [sm1]; · iexact sm1
    isplitl [rx01]; · iexact rx01
    isplitl [owe]; · iexact owe
    isplitl [t_xs01]; · iexact t_xs01
    isplitl [at_xs01]; · iexact at_xs01
    iexact t_xr01
  iintro ⟨cr_xs01, at_xs01, owe⟩
  iapply (send_x x dy K c 0 2 13 (dev14 c) rfl) $$ [sm2 rx02 owe t_xs02 at_xs02 t_xr02]
  · isplitr; · iexact HP
    isplitl [sm2]; · iexact sm2
    isplitl [rx02]; · iexact rx02
    isplitl [owe]; · iexact owe
    isplitl [t_xs02]; · iexact t_xs02
    isplitl [at_xs02]; · iexact at_xs02
    iexact t_xr02
  iintro ⟨cr_xs02, at_xs02, owe⟩
  iapply (load_x c) $$ xm
  iintro xm
  iapply (load_dy c 1) $$ dys1
  iintro dys1
  iapply (wpc_ret c _)
  iapply Hk
  isplitr; · ipureintro; exact val17 (XK x c 0) (DYB dy c 1)
  isplitl [cr_xs01]; · iexact cr_xs01
  isplitl [at_xs01]; · iexact at_xs01
  isplitl [cr_xs02]; · iexact cr_xs02
  isplitl [at_xs02]; · iexact at_xs02
  isplitl [owe]; · iexact owe
  isplitl [xm]; · iexact xm
  iexact dys1

/-- Part 18 of the kernel: what it takes and what it gives. -/
theorem part18 {Q : (FVec F S512x1024 .f32) → sProp 𝕄} (c : Dev nD) (v47 : BitVec 32) (v497 : FVec F S512x1024 .f32) (hv : v497 = DOT (XK x c 0)
    (DYB dy c 1)) :
    iprop(PER x dy K ∗ CR c (.yr 1 2) ∗ OWE c 14 ∗ AT c (.yr 1 2) 0 ∗ hasAny c (OST 1) ∗ hasAny c (OUTS c 0 1) ∗ TOK c (.out 1) 0 0 ∗ AT c (.out 1)
        0 ∗ CR c (.xs 0 0) ∗ AT c (.xs 0 0) 0)
      ⊢ iprop((∀ v, (⌜v = FIN x dy c 1⌝ ∗ AT c (.yr 1 2) 1 ∗ has c (YR 1 2) (SND x dy 2 (lft c) 1) ∗ CR c (.out 1) ∗ AT c (.out 1) 0 ∗ OWE c 14 ∗
          AT c (.xs 0 0) 1 ∗ owns (c : Thread nD τ) SM (xsh 0) (XSV x dy c 0)) -∗ Q v)
        -∗ wpc c (k0_part18 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v47 v497) Q) := by
  rw [k0_part18_eq_skeleton]
  unfold k0_part18_skel
  simp only [semSignalWord, semWaitWord, Prog.lift, Prog.bind_op, Prog.bind_ret, Prog.pure_eq_ret]
  iintro ⟨#HP, cr_yr12, owe, at_yr12, ost1, o01, t_out1_0, at_out1, cr_xs00, at_xs00⟩ Hk
  iapply (wait_yr x dy K c 1 2 14 (by decide)) $$ [cr_yr12 owe at_yr12]
  · isplitr; · iexact HP
    isplitl [cr_yr12]; · iexact cr_yr12
    isplitl [owe]; · iexact owe
    iexact at_yr12
  iintro ⟨owe, at_yr12, ly12⟩
  iapply (load_yr c 1 2) $$ ly12
  iintro ly12
  iapply (load_ost c 1) $$ ost1
  iintro %w9 ost1
  iapply (store_ost c 1 (OV x dy c 0 1) ((val19 (SND x dy 2 (lft c) 1) v497).trans (by rw [hv]; rfl))) $$ ost1
  iintro ost1
  iapply (copy_out x dy K c 1 0 (by decide) 0 1 rfl) $$ [ost1 o01 t_out1_0 at_out1]
  · isplitr; · iexact HP
    isplitl [ost1]; · iexact ost1
    isplitl [o01]; · iexact o01
    isplitl [t_out1_0]; · iexact t_out1_0
    iexact at_out1
  iintro ⟨cr_out1, at_out1⟩
  iapply (wait_xs x dy K c 0 0 14 (by decide)) $$ [cr_xs00 owe at_xs00]
  · isplitr; · iexact HP
    isplitl [cr_xs00]; · iexact cr_xs00
    isplitl [owe]; · iexact owe
    iexact at_xs00
  iintro ⟨owe, at_xs00, sm0⟩
  iapply (wpc_ret c _)
  iapply Hk
  isplitr; · ipureintro; exact (val18 (SND x dy 2 (lft c) 1) v497).trans (by rw [hv]; rfl)
  isplitl [at_yr12]; · iexact at_yr12
  isplitl [ly12]; · iexact ly12
  isplitl [cr_out1]; · iexact cr_out1
  isplitl [at_out1]; · iexact at_out1
  isplitl [owe]; · iexact owe
  isplitl [at_xs00]; · iexact at_xs00
  iexact sm0

/-- Part 19 of the kernel: what it takes and what it gives. -/
theorem part19 {Q : (Σ' (v552 : BitVec 32), BitVec 32) → sProp 𝕄} (c : Dev nD) (v2 : BitVec 32) (v5 : BitVec 32) (v8 : BitVec 32) (v48 : BitVec 32)
    (v513 : FVec F S512x1024 .f32) (hv : v513 = FIN x dy c 1) :
    iprop(PER x dy K ∗ CR c (.xs 0 1) ∗ OWE c 14 ∗ AT c (.xs 0 1) 0 ∗ CR c (.xs 0 2) ∗ AT c (.xs 0 2) 0 ∗ owns (c : Thread nD τ) SM (xsh 0) (XSV x
        dy c 0) ∗ hasAny (prt 0 c) (XR 1 0) ∗ TOK c (.xs 1 0) 0 0 ∗ AT c (.xs 1 0) 0 ∗ TOK (prt 0 c) (.xr 1 0) 0 0)
      ⊢ iprop((∀ v, (AT c (.xs 0 1) 1 ∗ AT c (.xs 0 2) 1 ∗ owns (c : Thread nD τ) SM (xsh 1) (XSV x dy c 1) ∗ owns (c : Thread nD τ) SM (xsh 2)
          (XSV x dy c 1) ∗ CR c (.xs 1 0) ∗ AT c (.xs 1 0) 0 ∗ OWE c 15) -∗ Q v)
        -∗ wpc c (k0_part19 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v2 v5 v8 v48 v513) Q) := by
  rw [k0_part19_eq_skeleton]
  unfold k0_part19_skel
  simp only [semSignalWord, semWaitWord, Prog.lift, Prog.bind_op, Prog.bind_ret, Prog.pure_eq_ret]
  iintro ⟨#HP, cr_xs01, owe, at_xs01, cr_xs02, at_xs02, sm0, rx10, t_xs10, at_xs10, t_xr10⟩ Hk
  iapply (wait_xs x dy K c 0 1 14 (by decide)) $$ [cr_xs01 owe at_xs01]
  · isplitr; · iexact HP
    isplitl [cr_xs01]; · iexact cr_xs01
    isplitl [owe]; · iexact owe
    iexact at_xs01
  iintro ⟨owe, at_xs01, sm1⟩
  iapply (wait_xs x dy K c 0 2 14 (by decide)) $$ [cr_xs02 owe at_xs02]
  · isplitr; · iexact HP
    isplitl [cr_xs02]; · iexact cr_xs02
    isplitl [owe]; · iexact owe
    iexact at_xs02
  iintro ⟨owe, at_xs02, sm2⟩
  ihave sm := (join_sm c _) $$ [sm0 sm1 sm2]
  · isplitl [sm0]; · iexact sm0
    isplitl [sm1]; · iexact sm1
    iexact sm2
  iapply (load_send c (fun _ => rfl)) $$ sm
  iintro sm
  iapply (store_sm c (XSV x dy c 1) ((val20 v513).trans (congrArg NAR hv))) $$ sm
  iintro sm
  ihave sm := (split_sm c _) $$ sm
  icases sm with ⟨sm0, sm1, sm2⟩
  iapply (send_x x dy K c 1 0 14 (dev15 c) rfl) $$ [sm0 rx10 owe t_xs10 at_xs10 t_xr10]
  · isplitr; · iexact HP
    isplitl [sm0]; · iexact sm0
    isplitl [rx10]; · iexact rx10
    isplitl [owe]; · iexact owe
    isplitl [t_xs10]; · iexact t_xs10
    isplitl [at_xs10]; · iexact at_xs10
    iexact t_xr10
  iintro ⟨cr_xs10, at_xs10, owe⟩
  iapply (wpc_ret c _)
  iapply Hk
  isplitl [at_xs01]; · iexact at_xs01
  isplitl [at_xs02]; · iexact at_xs02
  isplitl [sm1]; · iexact sm1
  isplitl [sm2]; · iexact sm2
  isplitl [cr_xs10]; · iexact cr_xs10
  isplitl [at_xs10]; · iexact at_xs10
  iexact owe

/-- Part 20 of the kernel: what it takes and what it gives. -/
theorem part20 {Q : (PUnit) → sProp 𝕄} (c : Dev nD) (v2 : BitVec 32) (v8 : BitVec 32) (v44 : BitVec 32) (v48 : BitVec 32) (v55 : BitVec 32) (v552 :
    BitVec 32) (c4_i32_525 : BitVec 32)  :
    iprop(PER x dy K ∗ owns (c : Thread nD τ) SM (xsh 1) (XSV x dy c 1) ∗ hasAny (prt 1 c) (XR 1 1) ∗ OWE c 15 ∗ TOK c (.xs 1 1) 0 0 ∗ AT c (.xs 1
        1) 0 ∗ TOK (prt 1 c) (.xr 1 1) 0 0 ∗ owns (c : Thread nD τ) SM (xsh 2) (XSV x dy c 1) ∗ hasAny (prt 2 c) (XR 1 2) ∗ TOK c (.xs 1 2) 0 0 ∗
            AT c (.xs 1 2) 0 ∗ TOK (prt 2 c) (.xr 1 2) 0 0)
      ⊢ iprop(((CR c (.xs 1 1) ∗ AT c (.xs 1 1) 0 ∗ CR c (.xs 1 2) ∗ AT c (.xs 1 2) 0 ∗ OWE c 17) -∗ Q ⟨⟩)
        -∗ wpc c (k0_part20 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v2 v8 v44 v48 v55 v552
                    c4_i32_525) Q) := by
  rw [k0_part20_eq_skeleton]
  unfold k0_part20_skel
  simp only [semSignalWord, semWaitWord, Prog.lift, Prog.bind_op, Prog.bind_ret, Prog.pure_eq_ret]
  iintro ⟨#HP, sm1, rx11, owe, t_xs11, at_xs11, t_xr11, sm2, rx12, t_xs12, at_xs12, t_xr12⟩ Hk
  iapply (send_x x dy K c 1 1 15 (dev16 c) rfl) $$ [sm1 rx11 owe t_xs11 at_xs11 t_xr11]
  · isplitr; · iexact HP
    isplitl [sm1]; · iexact sm1
    isplitl [rx11]; · iexact rx11
    isplitl [owe]; · iexact owe
    isplitl [t_xs11]; · iexact t_xs11
    isplitl [at_xs11]; · iexact at_xs11
    iexact t_xr11
  iintro ⟨cr_xs11, at_xs11, owe⟩
  iapply (send_x x dy K c 1 2 16 (dev17 c) rfl) $$ [sm2 rx12 owe t_xs12 at_xs12 t_xr12]
  · isplitr; · iexact HP
    isplitl [sm2]; · iexact sm2
    isplitl [rx12]; · iexact rx12
    isplitl [owe]; · iexact owe
    isplitl [t_xs12]; · iexact t_xs12
    isplitl [at_xs12]; · iexact at_xs12
    iexact t_xr12
  iintro ⟨cr_xs12, at_xs12, owe⟩
  iapply (wpc_ret c _)
  iapply Hk
  isplitl [cr_xs11]; · iexact cr_xs11
  isplitl [at_xs11]; · iexact at_xs11
  isplitl [cr_xs12]; · iexact cr_xs12
  isplitl [at_xs12]; · iexact at_xs12
  iexact owe

/-- Part 21 of the kernel: what it takes and what it gives. -/
theorem part21 {Q : (PUnit) → sProp 𝕄} (c : Dev nD) (v2 : BitVec 32) (v5 : BitVec 32) (v44 : BitVec 32) (v51 : BitVec 32)  :
    iprop(PER x dy K ∗ CR c (.xr 0 0) ∗ OWE c 17 ∗ AT c (.xr 0 0) 0 ∗ CR c (.out 0) ∗ AT c (.out 0) 0 ∗ hasAny c (OUTS c 1 0) ∗ TOK c (.out 0) 1 0)
      ⊢ iprop(((AT c (.xr 0 0) 1 ∗ OWE c 17 ∗ has c (OUTS c 0 0) (OV x dy c 0 0) ∗ has c (XR 0 0) (XSV x dy (prt 0 c) 0) ∗ CR c (.out 0) ∗ AT c
          (.out 0) 1) -∗ Q ⟨⟩)
        -∗ wpc c (k0_part21 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v2 v5 v44 v51) Q) := by
  rw [k0_part21_eq_skeleton]
  unfold k0_part21_skel
  simp only [semSignalWord, semWaitWord, Prog.lift, Prog.bind_op, Prog.bind_ret, Prog.pure_eq_ret]
  iintro ⟨#HP, cr_xr00, owe, at_xr00, cr_out0, at_out0, o10, t_out0_1⟩ Hk
  iapply (wait_xr x dy K c 0 0 17 (by decide)) $$ [cr_xr00 owe at_xr00]
  · isplitr; · iexact HP
    isplitl [cr_xr00]; · iexact cr_xr00
    isplitl [owe]; · iexact owe
    iexact at_xr00
  iintro ⟨owe, at_xr00, lx00⟩
  iapply (wait_out x dy K c 0 0 17 (by decide) 0 0 rfl (by decide)) $$ [cr_out0 owe at_out0]
  · isplitr; · iexact HP
    isplitl [cr_out0]; · iexact cr_out0
    isplitl [owe]; · iexact owe
    iexact at_out0
  iintro ⟨owe, at_out0, o00, ost0⟩
  iapply (load_xr c 0 0) $$ lx00
  iintro lx00
  iapply (load_ost c 0) $$ ost0
  iintro %w15 ost0
  iapply (store_ost c 0 (OV x dy c 1 0) (val21 (XSV x dy (prt 0 c) 0))) $$ ost0
  iintro ost0
  iapply (copy_out x dy K c 0 1 (by decide) 1 0 rfl) $$ [ost0 o10 t_out0_1 at_out0]
  · isplitr; · iexact HP
    isplitl [ost0]; · iexact ost0
    isplitl [o10]; · iexact o10
    isplitl [t_out0_1]; · iexact t_out0_1
    iexact at_out0
  iintro ⟨cr_out0, at_out0⟩
  iapply (wpc_ret c _)
  iapply Hk
  isplitl [at_xr00]; · iexact at_xr00
  isplitl [owe]; · iexact owe
  isplitl [o00]; · iexact o00
  isplitl [lx00]; · iexact lx00
  isplitl [cr_out0]; · iexact cr_out0
  iexact at_out0

/-- Part 22 of the kernel: what it takes and what it gives. -/
theorem part22 {Q : (BitVec 32) → sProp 𝕄} (c : Dev nD) (v2 : BitVec 32) (v54 : BitVec 32) (v55 : BitVec 32)  :
    iprop(PER x dy K ∗ CR c (.xr 0 1) ∗ OWE c 17 ∗ AT c (.xr 0 1) 0 ∗ CR c (.out 1) ∗ AT c (.out 1) 0 ∗ hasAny c (OUTS c 2 0) ∗ TOK c (.out 1) 1 0)
      ⊢ iprop((∀ v, (AT c (.xr 0 1) 1 ∗ OWE c 17 ∗ has c (OUTS c 0 1) (OV x dy c 0 1) ∗ has c (XR 0 1) (XSV x dy (prt 1 c) 0) ∗ CR c (.out 1) ∗ AT
          c (.out 1) 1) -∗ Q v)
        -∗ wpc c (k0_part22 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v2 v54 v55) Q) := by
  rw [k0_part22_eq_skeleton]
  unfold k0_part22_skel
  simp only [semSignalWord, semWaitWord, Prog.lift, Prog.bind_op, Prog.bind_ret, Prog.pure_eq_ret]
  iintro ⟨#HP, cr_xr01, owe, at_xr01, cr_out1, at_out1, o20, t_out1_1⟩ Hk
  iapply (wait_xr x dy K c 0 1 17 (by decide)) $$ [cr_xr01 owe at_xr01]
  · isplitr; · iexact HP
    isplitl [cr_xr01]; · iexact cr_xr01
    isplitl [owe]; · iexact owe
    iexact at_xr01
  iintro ⟨owe, at_xr01, lx01⟩
  iapply (wait_out x dy K c 1 0 17 (by decide) 0 1 rfl (by decide)) $$ [cr_out1 owe at_out1]
  · isplitr; · iexact HP
    isplitl [cr_out1]; · iexact cr_out1
    isplitl [owe]; · iexact owe
    iexact at_out1
  iintro ⟨owe, at_out1, o01, ost1⟩
  iapply (load_xr c 0 1) $$ lx01
  iintro lx01
  iapply (load_ost c 1) $$ ost1
  iintro %w15 ost1
  iapply (store_ost c 1 (OV x dy c 2 0) (val22 (XSV x dy (prt 1 c) 0))) $$ ost1
  iintro ost1
  iapply (copy_out x dy K c 1 1 (by decide) 2 0 rfl) $$ [ost1 o20 t_out1_1 at_out1]
  · isplitr; · iexact HP
    isplitl [ost1]; · iexact ost1
    isplitl [o20]; · iexact o20
    isplitl [t_out1_1]; · iexact t_out1_1
    iexact at_out1
  iintro ⟨cr_out1, at_out1⟩
  iapply (wpc_ret c _)
  iapply Hk
  isplitl [at_xr01]; · iexact at_xr01
  isplitl [owe]; · iexact owe
  isplitl [o01]; · iexact o01
  isplitl [lx01]; · iexact lx01
  isplitl [cr_out1]; · iexact cr_out1
  iexact at_out1

/-- Part 23 of the kernel: what it takes and what it gives. -/
theorem part23 {Q : (Σ' (v659 : BitVec 32), BitVec 32) → sProp 𝕄} (c : Dev nD) (v44 : BitVec 32) (v48 : BitVec 32) (v59 : BitVec 32) (v634 : BitVec
    32)  :
    iprop(PER x dy K ∗ CR c (.xr 0 2) ∗ OWE c 17 ∗ AT c (.xr 0 2) 0 ∗ CR c (.out 0) ∗ AT c (.out 0) 1 ∗ hasAny c (OUTS c 3 0) ∗ TOK c (.out 0) 2 0)
      ⊢ iprop((∀ v, (AT c (.xr 0 2) 1 ∗ OWE c 17 ∗ has c (OUTS c 1 0) (OV x dy c 1 0) ∗ has c (XR 0 2) (XSV x dy (prt 2 c) 0) ∗ CR c (.out 0) ∗ AT
          c (.out 0) 2) -∗ Q v)
        -∗ wpc c (k0_part23 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v44 v48 v59 v634) Q) := by
  rw [k0_part23_eq_skeleton]
  unfold k0_part23_skel
  simp only [semSignalWord, semWaitWord, Prog.lift, Prog.bind_op, Prog.bind_ret, Prog.pure_eq_ret]
  iintro ⟨#HP, cr_xr02, owe, at_xr02, cr_out0, at_out0, o30, t_out0_2⟩ Hk
  iapply (wait_xr x dy K c 0 2 17 (by decide)) $$ [cr_xr02 owe at_xr02]
  · isplitr; · iexact HP
    isplitl [cr_xr02]; · iexact cr_xr02
    isplitl [owe]; · iexact owe
    iexact at_xr02
  iintro ⟨owe, at_xr02, lx02⟩
  iapply (wait_out x dy K c 0 1 17 (by decide) 1 0 rfl (by decide)) $$ [cr_out0 owe at_out0]
  · isplitr; · iexact HP
    isplitl [cr_out0]; · iexact cr_out0
    isplitl [owe]; · iexact owe
    iexact at_out0
  iintro ⟨owe, at_out0, o10, ost0⟩
  iapply (load_xr c 0 2) $$ lx02
  iintro lx02
  iapply (load_ost c 0) $$ ost0
  iintro %w15 ost0
  iapply (store_ost c 0 (OV x dy c 3 0) (val23 (XSV x dy (prt 2 c) 0))) $$ ost0
  iintro ost0
  iapply (copy_out x dy K c 0 2 (by decide) 3 0 rfl) $$ [ost0 o30 t_out0_2 at_out0]
  · isplitr; · iexact HP
    isplitl [ost0]; · iexact ost0
    isplitl [o30]; · iexact o30
    isplitl [t_out0_2]; · iexact t_out0_2
    iexact at_out0
  iintro ⟨cr_out0, at_out0⟩
  iapply (wpc_ret c _)
  iapply Hk
  isplitl [at_xr02]; · iexact at_xr02
  isplitl [owe]; · iexact owe
  isplitl [o10]; · iexact o10
  isplitl [lx02]; · iexact lx02
  isplitl [cr_out0]; · iexact cr_out0
  iexact at_out0

/-- Part 24 of the kernel: what it takes and what it gives. -/
theorem part24 {Q : (PUnit) → sProp 𝕄} (c : Dev nD) (v2 : BitVec 32) (v8 : BitVec 32) (v51 : BitVec 32) (v659 : BitVec 32) (c0_i32_644 : BitVec 32)  :
    iprop(PER x dy K ∗ CR c (.xr 1 0) ∗ OWE c 17 ∗ AT c (.xr 1 0) 0 ∗ CR c (.out 1) ∗ AT c (.out 1) 1 ∗ hasAny c (OUTS c 1 1) ∗ TOK c (.out 1) 2 0)
      ⊢ iprop(((AT c (.xr 1 0) 1 ∗ OWE c 17 ∗ has c (OUTS c 2 0) (OV x dy c 2 0) ∗ has c (XR 1 0) (XSV x dy (prt 0 c) 1) ∗ CR c (.out 1) ∗ AT c
          (.out 1) 2) -∗ Q ⟨⟩)
        -∗ wpc c (k0_part24 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v2 v8 v51 v659
                    c0_i32_644) Q) := by
  rw [k0_part24_eq_skeleton]
  unfold k0_part24_skel
  simp only [semSignalWord, semWaitWord, Prog.lift, Prog.bind_op, Prog.bind_ret, Prog.pure_eq_ret]
  iintro ⟨#HP, cr_xr10, owe, at_xr10, cr_out1, at_out1, o11, t_out1_2⟩ Hk
  iapply (wait_xr x dy K c 1 0 17 (by decide)) $$ [cr_xr10 owe at_xr10]
  · isplitr; · iexact HP
    isplitl [cr_xr10]; · iexact cr_xr10
    isplitl [owe]; · iexact owe
    iexact at_xr10
  iintro ⟨owe, at_xr10, lx10⟩
  iapply (wait_out x dy K c 1 1 17 (by decide) 2 0 rfl (by decide)) $$ [cr_out1 owe at_out1]
  · isplitr; · iexact HP
    isplitl [cr_out1]; · iexact cr_out1
    isplitl [owe]; · iexact owe
    iexact at_out1
  iintro ⟨owe, at_out1, o20, ost1⟩
  iapply (load_xr c 1 0) $$ lx10
  iintro lx10
  iapply (load_ost c 1) $$ ost1
  iintro %w15 ost1
  iapply (store_ost c 1 (OV x dy c 1 1) (val24 (XSV x dy (prt 0 c) 1))) $$ ost1
  iintro ost1
  iapply (copy_out x dy K c 1 2 (by decide) 1 1 rfl) $$ [ost1 o11 t_out1_2 at_out1]
  · isplitr; · iexact HP
    isplitl [ost1]; · iexact ost1
    isplitl [o11]; · iexact o11
    isplitl [t_out1_2]; · iexact t_out1_2
    iexact at_out1
  iintro ⟨cr_out1, at_out1⟩
  iapply (wpc_ret c _)
  iapply Hk
  isplitl [at_xr10]; · iexact at_xr10
  isplitl [owe]; · iexact owe
  isplitl [o20]; · iexact o20
  isplitl [lx10]; · iexact lx10
  isplitl [cr_out1]; · iexact cr_out1
  iexact at_out1

/-- Part 25 of the kernel: what it takes and what it gives. -/
theorem part25 {Q : (PUnit) → sProp 𝕄} (c : Dev nD) (v2 : BitVec 32) (v5 : BitVec 32) (v44 : BitVec 32) (v54 : BitVec 32)  :
    iprop(PER x dy K ∗ CR c (.xr 1 1) ∗ OWE c 17 ∗ AT c (.xr 1 1) 0 ∗ CR c (.out 0) ∗ AT c (.out 0) 2 ∗ hasAny c (OUTS c 2 1) ∗ TOK c (.out 0) 3 0)
      ⊢ iprop(((AT c (.xr 1 1) 1 ∗ OWE c 17 ∗ has c (OUTS c 3 0) (OV x dy c 3 0) ∗ has c (XR 1 1) (XSV x dy (prt 1 c) 1) ∗ CR c (.out 0) ∗ AT c
          (.out 0) 3) -∗ Q ⟨⟩)
        -∗ wpc c (k0_part25 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v2 v5 v44 v54) Q) := by
  rw [k0_part25_eq_skeleton]
  unfold k0_part25_skel
  simp only [semSignalWord, semWaitWord, Prog.lift, Prog.bind_op, Prog.bind_ret, Prog.pure_eq_ret]
  iintro ⟨#HP, cr_xr11, owe, at_xr11, cr_out0, at_out0, o21, t_out0_3⟩ Hk
  iapply (wait_xr x dy K c 1 1 17 (by decide)) $$ [cr_xr11 owe at_xr11]
  · isplitr; · iexact HP
    isplitl [cr_xr11]; · iexact cr_xr11
    isplitl [owe]; · iexact owe
    iexact at_xr11
  iintro ⟨owe, at_xr11, lx11⟩
  iapply (wait_out x dy K c 0 2 17 (by decide) 3 0 rfl (by decide)) $$ [cr_out0 owe at_out0]
  · isplitr; · iexact HP
    isplitl [cr_out0]; · iexact cr_out0
    isplitl [owe]; · iexact owe
    iexact at_out0
  iintro ⟨owe, at_out0, o30, ost0⟩
  iapply (load_xr c 1 1) $$ lx11
  iintro lx11
  iapply (load_ost c 0) $$ ost0
  iintro %w15 ost0
  iapply (store_ost c 0 (OV x dy c 2 1) (val25 (XSV x dy (prt 1 c) 1))) $$ ost0
  iintro ost0
  iapply (copy_out x dy K c 0 3 (by decide) 2 1 rfl) $$ [ost0 o21 t_out0_3 at_out0]
  · isplitr; · iexact HP
    isplitl [ost0]; · iexact ost0
    isplitl [o21]; · iexact o21
    isplitl [t_out0_3]; · iexact t_out0_3
    iexact at_out0
  iintro ⟨cr_out0, at_out0⟩
  iapply (wpc_ret c _)
  iapply Hk
  isplitl [at_xr11]; · iexact at_xr11
  isplitl [owe]; · iexact owe
  isplitl [o30]; · iexact o30
  isplitl [lx11]; · iexact lx11
  isplitl [cr_out0]; · iexact cr_out0
  iexact at_out0

/-- Part 26 of the kernel: what it takes and what it gives. -/
theorem part26 {Q : (PUnit) → sProp 𝕄} (c : Dev nD) (v2 : BitVec 32) (v44 : BitVec 32) (v55 : BitVec 32) (v59 : BitVec 32)  :
    iprop(PER x dy K ∗ CR c (.xr 1 2) ∗ OWE c 17 ∗ AT c (.xr 1 2) 0 ∗ CR c (.out 1) ∗ AT c (.out 1) 2)
      ⊢ iprop(((AT c (.xr 1 2) 1 ∗ OWE c 17 ∗ AT c (.out 1) 3 ∗ has c (OUTS c 1 1) (OV x dy c 1 1) ∗ has c (XR 1 2) (XSV x dy (prt 2 c) 1) ∗ has c
          (OST 1) (OV x dy c 3 1)) -∗ Q ⟨⟩)
        -∗ wpc c (k0_part26 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c v2 v44 v55 v59) Q) := by
  rw [k0_part26_eq_skeleton]
  unfold k0_part26_skel
  simp only [semSignalWord, semWaitWord, Prog.lift, Prog.bind_op, Prog.bind_ret, Prog.pure_eq_ret]
  iintro ⟨#HP, cr_xr12, owe, at_xr12, cr_out1, at_out1⟩ Hk
  iapply (wait_xr x dy K c 1 2 17 (by decide)) $$ [cr_xr12 owe at_xr12]
  · isplitr; · iexact HP
    isplitl [cr_xr12]; · iexact cr_xr12
    isplitl [owe]; · iexact owe
    iexact at_xr12
  iintro ⟨owe, at_xr12, lx12⟩
  iapply (wait_out x dy K c 1 2 17 (by decide) 1 1 rfl (by decide)) $$ [cr_out1 owe at_out1]
  · isplitr; · iexact HP
    isplitl [cr_out1]; · iexact cr_out1
    isplitl [owe]; · iexact owe
    iexact at_out1
  iintro ⟨owe, at_out1, o11, ost1⟩
  iapply (load_xr c 1 2) $$ lx12
  iintro lx12
  iapply (load_ost c 1) $$ ost1
  iintro %w15 ost1
  iapply (store_ost c 1 (OV x dy c 3 1) (val26 (XSV x dy (prt 2 c) 1))) $$ ost1
  iintro ost1
  iapply (wpc_ret c _)
  iapply Hk
  isplitl [at_xr12]; · iexact at_xr12
  isplitl [owe]; · iexact owe
  isplitl [at_out1]; · iexact at_out1
  isplitl [o11]; · iexact o11
  isplitl [lx12]; · iexact lx12
  iexact ost1

/-- Part 27 of the kernel: what it takes and what it gives. -/
theorem part27 {Q : (PUnit) → sProp 𝕄} (c : Dev nD)   :
    iprop(PER x dy K ∗ has c (OST 1) (OV x dy c 3 1) ∗ hasAny c (OUTS c 3 1) ∗ TOK c (.out 1) 3 0 ∗ AT c (.out 1) 3 ∗ CR c (.ys 0) ∗ OWE c 17 ∗ AT
        c (.ys 0) 2 ∗ CR c (.ys 1) ∗ AT c (.ys 1) 2 ∗ CR c (.xs 1 0) ∗ AT c (.xs 1 0) 0)
      ⊢ iprop(((CR c (.out 1) ∗ AT c (.out 1) 3 ∗ AT c (.ys 0) 3 ∗ hasAny c (STG 0) ∗ AT c (.ys 1) 3 ∗ hasAny c (STG 1) ∗ OWE c 17 ∗ AT c (.xs 1 0)
          1 ∗ owns (c : Thread nD τ) SM (xsh 0) (XSV x dy c 1)) -∗ Q ⟨⟩)
        -∗ wpc c (k0_part27 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11 c) Q) := by
  rw [k0_part27_eq_skeleton]
  unfold k0_part27_skel
  simp only [semSignalWord, semWaitWord, Prog.lift, Prog.bind_op, Prog.bind_ret, Prog.pure_eq_ret]
  iintro ⟨#HP, ost1, o31, t_out1_3, at_out1, cr_ys0, owe, at_ys0, cr_ys1, at_ys1, cr_xs10, at_xs10⟩ Hk
  iapply (copy_out x dy K c 1 3 (by decide) 3 1 rfl) $$ [ost1 o31 t_out1_3 at_out1]
  · isplitr; · iexact HP
    isplitl [ost1]; · iexact ost1
    isplitl [o31]; · iexact o31
    isplitl [t_out1_3]; · iexact t_out1_3
    iexact at_out1
  iintro ⟨cr_out1, at_out1⟩
  iapply (wait_ys x dy K c 0 2 17 (by decide) (by decide)) $$ [cr_ys0 owe at_ys0]
  · isplitr; · iexact HP
    isplitl [cr_ys0]; · iexact cr_ys0
    isplitl [owe]; · iexact owe
    iexact at_ys0
  iintro ⟨owe, at_ys0, stg0⟩
  iapply (wait_ys x dy K c 1 2 17 (by decide) (by decide)) $$ [cr_ys1 owe at_ys1]
  · isplitr; · iexact HP
    isplitl [cr_ys1]; · iexact cr_ys1
    isplitl [owe]; · iexact owe
    iexact at_ys1
  iintro ⟨owe, at_ys1, stg1⟩
  iapply (wait_xs x dy K c 1 0 17 (by decide)) $$ [cr_xs10 owe at_xs10]
  · isplitr; · iexact HP
    isplitl [cr_xs10]; · iexact cr_xs10
    isplitl [owe]; · iexact owe
    iexact at_xs10
  iintro ⟨owe, at_xs10, sm0⟩
  iapply (wpc_ret c _)
  iapply Hk
  isplitl [cr_out1]; · iexact cr_out1
  isplitl [at_out1]; · iexact at_out1
  isplitl [at_ys0]; · iexact at_ys0
  isplitl [stg0]; · iexact stg0
  isplitl [at_ys1]; · iexact at_ys1
  isplitl [stg1]; · iexact stg1
  isplitl [owe]; · iexact owe
  isplitl [at_xs10]; · iexact at_xs10
  iexact sm0

end Cert.Wgrad

end
-- ==== Proof.Body.lean ====
/-
The parts in order: one device's whole body.
-/
module

public import proofs.«01_k».proof.Proof.PartsA
public import proofs.«01_k».proof.Proof.PartsB

@[expose] public section

noncomputable section

namespace Cert.Wgrad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → S2048x2048.Idx → Elt F .f32) (dy : Dev nD → S2048x8192.Idx → Elt F .f32)
variable (K : Dev nD × CK → ℕ)

/-- All the parts, one after another, and the first waits of the end. -/
theorem part28 {Q : PUnit → sProp 𝕄} (c : Dev nD) :
    iprop(PER x dy K ∗ OWE c 0 ∗ has c XM (x c) ∗ cred (tallyAt (kcell c .bar) () 5) ∗ AT c .bar 0 ∗ TOK (lft c) .bar 0 0 ∗ TOK (rgt c) .bar 0 1 ∗
        TOK (prt 0 c) .bar 0 2 ∗ TOK (prt 1 c) .bar 0 3 ∗ TOK (prt 2 c) .bar 0 4 ∗ AT c (.dy 0) 0 ∗ TOK c (.dy 0) 0 0 ∗ AT c (.out 0) 0 ∗ TOK c
            (.out 0) 0 0 ∗ TOK c (.out 0) 1 0 ∗ TOK c (.out 0) 2 0 ∗ TOK c (.out 0) 3 0 ∗ AT c (.ys 0) 0 ∗ TOK c (.ys 0) 0 0 ∗ TOK c (.ys 0) 1 0 ∗
                TOK c (.ys 0) 2 0 ∗ AT c (.yr 0 0) 0 ∗ TOK (rgt c) (.yr 0 0) 0 0 ∗ CR c (.yr 0 0) ∗ AT c (.xs 0 0) 0 ∗ TOK c (.xs 0 0) 0 0 ∗ AT c
                    (.xr 0 0) 0 ∗ TOK (prt 0 c) (.xr 0 0) 0 0 ∗ CR c (.xr 0 0) ∗ AT c (.yr 0 1) 0 ∗ TOK (rgt c) (.yr 0 1) 0 0 ∗ CR c (.yr 0 1) ∗ AT
            c (.xs 0 1) 0 ∗ TOK c (.xs 0 1) 0 0 ∗ AT c (.xr 0 1) 0 ∗ TOK (prt 1 c) (.xr 0 1) 0 0 ∗ CR c (.xr 0 1) ∗ AT c (.yr 0 2) 0 ∗ TOK (rgt c)
                (.yr 0 2) 0 0 ∗ CR c (.yr 0 2) ∗ AT c (.xs 0 2) 0 ∗ TOK c (.xs 0 2) 0 0 ∗ AT c (.xr 0 2) 0 ∗ TOK (prt 2 c) (.xr 0 2) 0 0 ∗ CR c
                    (.xr 0 2) ∗ dySrc dy c 0 ∗ hasAny c (DYS 0) ∗ hasAny c (STG 0) ∗ hasAny c (OST 0) ∗ hasAny c (OUTS c 0 0) ∗ hasAny c (OUTS c 1
            0) ∗ hasAny c (OUTS c 2 0) ∗ hasAny c (OUTS c 3 0) ∗ AT c (.dy 1) 0 ∗ TOK c (.dy 1) 0 0 ∗ AT c (.out 1) 0 ∗ TOK c (.out 1) 0 0 ∗ TOK c
                (.out 1) 1 0 ∗ TOK c (.out 1) 2 0 ∗ TOK c (.out 1) 3 0 ∗ AT c (.ys 1) 0 ∗ TOK c (.ys 1) 0 0 ∗ TOK c (.ys 1) 1 0 ∗ TOK c (.ys 1) 2 0
                    ∗ AT c (.yr 1 0) 0 ∗ TOK (rgt c) (.yr 1 0) 0 0 ∗ CR c (.yr 1 0) ∗ AT c (.xs 1 0) 0 ∗ TOK c (.xs 1 0) 0 0 ∗ AT c (.xr 1 0) 0 ∗
            TOK (prt 0 c) (.xr 1 0) 0 0 ∗ CR c (.xr 1 0) ∗ AT c (.yr 1 1) 0 ∗ TOK (rgt c) (.yr 1 1) 0 0 ∗ CR c (.yr 1 1) ∗ AT c (.xs 1 1) 0 ∗ TOK c
                (.xs 1 1) 0 0 ∗ AT c (.xr 1 1) 0 ∗ TOK (prt 1 c) (.xr 1 1) 0 0 ∗ CR c (.xr 1 1) ∗ AT c (.yr 1 2) 0 ∗ TOK (rgt c) (.yr 1 2) 0 0 ∗ CR
                    c (.yr 1 2) ∗ AT c (.xs 1 2) 0 ∗ TOK c (.xs 1 2) 0 0 ∗ AT c (.xr 1 2) 0 ∗ TOK (prt 2 c) (.xr 1 2) 0 0 ∗ CR c (.xr 1 2) ∗ dySrc
            dy c 1 ∗ hasAny c (DYS 1) ∗ hasAny c (STG 1) ∗ hasAny c (OST 1) ∗ hasAny c (OUTS c 0 1) ∗ hasAny c (OUTS c 1 1) ∗ hasAny c (OUTS c 2 1)
                ∗ hasAny c (OUTS c 3 1) ∗ yslots c ∗ xslots 0 c ∗ xslots 1 c ∗ xslots 2 c ∗ hasAny c SM)
      ⊢ iprop(((AT c .bar 1 ∗ AT c (.dy 0) 1 ∗ dySrc dy c 0 ∗ AT c (.dy 1) 1 ∗ dySrc dy c 1 ∗ AT c (.yr 0 0) 1 ∗ has c (YR 0 0) (SND x dy 0 (lft c)
          0) ∗ AT c (.yr 1 0) 1 ∗ has c (YR 1 0) (SND x dy 0 (lft c) 1) ∗ AT c (.yr 0 1) 1 ∗ has c (YR 0 1) (SND x dy 1 (lft c) 0) ∗ AT c (.yr 1 1)
              1 ∗ has c (YR 1 1) (SND x dy 1 (lft c) 1) ∗ has c (DYS 0) (DYB dy c 0) ∗ AT c (.yr 0 2) 1 ∗ has c (YR 0 2) (SND x dy 2 (lft c) 0) ∗
                  has c XM (x c) ∗ has c (DYS 1) (DYB dy c 1) ∗ AT c (.yr 1 2) 1 ∗ has c (YR 1 2) (SND x dy 2 (lft c) 1) ∗ AT c (.xs 0 0) 1 ∗ AT c
            (.xs 0 1) 1 ∗ AT c (.xs 0 2) 1 ∗ AT c (.xr 0 0) 1 ∗ has c (OUTS c 0 0) (OV x dy c 0 0) ∗ has c (XR 0 0) (XSV x dy (prt 0 c) 0) ∗ AT c
                (.xr 0 1) 1 ∗ has c (OUTS c 0 1) (OV x dy c 0 1) ∗ has c (XR 0 1) (XSV x dy (prt 1 c) 0) ∗ AT c (.xr 0 2) 1 ∗ has c (OUTS c 1 0)
                    (OV x dy c 1 0) ∗ has c (XR 0 2) (XSV x dy (prt 2 c) 0) ∗ AT c (.xr 1 0) 1 ∗ has c (OUTS c 2 0) (OV x dy c 2 0) ∗ has c (XR 1
            0) (XSV x dy (prt 0 c) 1) ∗ AT c (.xr 1 1) 1 ∗ has c (OUTS c 3 0) (OV x dy c 3 0) ∗ has c (XR 1 1) (XSV x dy (prt 1 c) 1) ∗ AT c (.xr 1
                2) 1 ∗ has c (OUTS c 1 1) (OV x dy c 1 1) ∗ has c (XR 1 2) (XSV x dy (prt 2 c) 1) ∗ CR c (.out 1) ∗ AT c (.out 1) 3 ∗ AT c (.ys 0)
                    3 ∗ hasAny c (STG 0) ∗ AT c (.ys 1) 3 ∗ hasAny c (STG 1) ∗ AT c (.xs 1 0) 1 ∗ owns (c : Thread nD τ) SM (xsh 0) (XSV x dy c 1)
            ∗ AT c (.xs 1 1) 1 ∗ owns (c : Thread nD τ) SM (xsh 1) (XSV x dy c 1) ∗ AT c (.xs 1 2) 1 ∗ owns (c : Thread nD τ) SM (xsh 2) (XSV x dy
                c 1) ∗ OWE c 17 ∗ AT c (.out 0) 4 ∗ has c (OUTS c 2 1) (OV x dy c 2 1) ∗ hasAny c (OST 0)) -∗ Q ⟨⟩)
        -∗ wpc c (k0_part28 (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11) Q) := by
  rw [k0_part28_eq_skeleton]
  unfold k0_part28_skel
  iintro ⟨#HP, owe, xm, pbar, at_bar, t_bar0, t_bar1, t_bar2, t_bar3, t_bar4, at_dy0, t_dy0, at_out0, t_out0_0, t_out0_1, t_out0_2, t_out0_3,
      at_ys0, t_ys0_0, t_ys0_1, t_ys0_2, at_yr00, t_yr00, cr_yr00, at_xs00, t_xs00, at_xr00, t_xr00, cr_xr00, at_yr01, t_yr01, cr_yr01, at_xs01,
          t_xs01, at_xr01, t_xr01, cr_xr01, at_yr02, t_yr02, cr_yr02, at_xs02, t_xs02, at_xr02, t_xr02, cr_xr02, dysrc0, dys0, stg0, ost0, o00,
              o10, o20, o30, at_dy1, t_dy1, at_out1, t_out1_0, t_out1_1, t_out1_2, t_out1_3, at_ys1, t_ys1_0, t_ys1_1, t_ys1_2, at_yr10, t_yr10,
                  cr_yr10, at_xs10, t_xs10, at_xr10, t_xr10, cr_xr10, at_yr11, t_yr11, cr_yr11, at_xs11, t_xs11, at_xr11, t_xr11, cr_xr11, at_yr12,
            t_yr12, cr_yr12, at_xs12, t_xs12, at_xr12, t_xr12, cr_xr12, dysrc1, dys1, stg1, ost1, o01, o11, o21, o31, ysl, xsl0, xsl1, xsl2, sm⟩ Hk
  iapply (wpc_bind c _ _)
  iapply (part1 c)
  iintro %v %hv
  obtain ⟨d0, v2, v5, v8, v20, v31, v33, v34⟩ := v
  dsimp only at hv
  subst hv
  dsimp only
  iapply (wpc_bind c _ _)
  iapply (part2 x dy K c _ _ _ _ _ ) $$ [owe t_bar0 ysl]
  · isplitr; · iexact HP
    isplitl [owe]; · iexact owe
    isplitl [t_bar0]; · iexact t_bar0
    iexact ysl
  iintro %v ⟨%hv2, owe⟩
  obtain ⟨v44, v47, v48, v51, v54, v55, v59, v60, v68, c4_i32_42⟩ := v
  dsimp only at hv2
  subst hv2
  try dsimp only
  iapply (wpc_bind c _ _)
  iapply (part3 x dy K c _ _ _ _ _ _ _ _ _ _ ) $$ [owe t_bar1 t_bar2 xsl0 t_bar3 xsl1 t_bar4 xsl2 pbar at_bar dysrc0 dys0 t_dy0 at_dy0]
  · isplitr; · iexact HP
    isplitl [owe]; · iexact owe
    isplitl [t_bar1]; · iexact t_bar1
    isplitl [t_bar2]; · iexact t_bar2
    isplitl [xsl0]; · iexact xsl0
    isplitl [t_bar3]; · iexact t_bar3
    isplitl [xsl1]; · iexact xsl1
    isplitl [t_bar4]; · iexact t_bar4
    isplitl [xsl2]; · iexact xsl2
    isplitl [pbar]; · iexact pbar
    isplitl [at_bar]; · iexact at_bar
    isplitl [dysrc0]; · iexact dysrc0
    isplitl [dys0]; · iexact dys0
    isplitl [t_dy0]; · iexact t_dy0
    iexact at_dy0
  iintro ⟨owe, at_bar, ry00, ry01, ry02, ry10, ry11, ry12, rx00, rx10, rx01, rx11, rx02, rx12, cr_dy0, at_dy0⟩
  try dsimp only
  iapply (wpc_bind c _ _)
  iapply (part4 x dy K c _ _ ) $$ [dysrc1 dys1 t_dy1 at_dy1 cr_dy0 owe at_dy0 xm stg0]
  · isplitr; · iexact HP
    isplitl [dysrc1]; · iexact dysrc1
    isplitl [dys1]; · iexact dys1
    isplitl [t_dy1]; · iexact t_dy1
    isplitl [at_dy1]; · iexact at_dy1
    isplitl [cr_dy0]; · iexact cr_dy0
    isplitl [owe]; · iexact owe
    isplitl [at_dy0]; · iexact at_dy0
    isplitl [xm]; · iexact xm
    iexact stg0
  iintro %v ⟨%hv4, cr_dy1, at_dy1, owe, at_dy0, dysrc0, xm, dys0, stg0⟩
  obtain ⟨v127, v128⟩ := v
  dsimp only at hv4
  try dsimp only
  iapply (wpc_bind c _ _)
  iapply (part5 x dy K c _ _ _ _ _ _ _ hv4) $$ [stg0 ry00 owe t_ys0_0 at_ys0 t_yr00 cr_dy1 at_dy1]
  · isplitr; · iexact HP
    isplitl [stg0]; · iexact stg0
    isplitl [ry00]; · iexact ry00
    isplitl [owe]; · iexact owe
    isplitl [t_ys0_0]; · iexact t_ys0_0
    isplitl [at_ys0]; · iexact at_ys0
    isplitl [t_yr00]; · iexact t_yr00
    isplitl [cr_dy1]; · iexact cr_dy1
    iexact at_dy1
  iintro %v ⟨cr_ys0, at_ys0, owe, at_dy1, dys1, dysrc1⟩
  obtain ⟨v153, v154, v155, v158⟩ := v
  try dsimp only
  iapply (wpc_bind c _ _)
  iapply (part6 x dy K c _ _ _ _ _ _ _ _ ) $$ [xm dys1 stg1 ry10 owe t_ys1_0 at_ys1 t_yr10]
  · isplitr; · iexact HP
    isplitl [xm]; · iexact xm
    isplitl [dys1]; · iexact dys1
    isplitl [stg1]; · iexact stg1
    isplitl [ry10]; · iexact ry10
    isplitl [owe]; · iexact owe
    isplitl [t_ys1_0]; · iexact t_ys1_0
    isplitl [at_ys1]; · iexact at_ys1
    iexact t_yr10
  iintro %v ⟨xm, dys1, cr_ys1, at_ys1, owe⟩
  obtain ⟨v187, v189⟩ := v
  try dsimp only
  iapply (wpc_bind c _ _)
  iapply (part7 x dy K c _ _ _ _ _ ) $$ [xm dys0 cr_yr00 owe at_yr00]
  · isplitr; · iexact HP
    isplitl [xm]; · iexact xm
    isplitl [dys0]; · iexact dys0
    isplitl [cr_yr00]; · iexact cr_yr00
    isplitl [owe]; · iexact owe
    iexact at_yr00
  iintro %w7 ⟨%hv7, xm, dys0, owe, at_yr00, ly00⟩
  try dsimp only
  iapply (wpc_bind c _ _)
  iapply (part8 x dy K c _ _ _ _ _ hv7) $$ [cr_ys0 owe at_ys0 ry01 t_ys0_1 t_yr01]
  · isplitr; · iexact HP
    isplitl [cr_ys0]; · iexact cr_ys0
    isplitl [owe]; · iexact owe
    isplitl [at_ys0]; · iexact at_ys0
    isplitl [ry01]; · iexact ry01
    isplitl [t_ys0_1]; · iexact t_ys0_1
    iexact t_yr01
  iintro %v ⟨cr_ys0, at_ys0, owe⟩
  obtain ⟨v245, c4_i32_197, v246, c1_i32_199⟩ := v
  try dsimp only
  iapply (wpc_bind c _ _)
  iapply (part9 x dy K c _ _ _ _ _ _ _ ) $$ [xm dys1 cr_yr10 owe at_yr10]
  · isplitr; · iexact HP
    isplitl [xm]; · iexact xm
    isplitl [dys1]; · iexact dys1
    isplitl [cr_yr10]; · iexact cr_yr10
    isplitl [owe]; · iexact owe
    iexact at_yr10
  iintro %w9 ⟨%hv9, xm, dys1, owe, at_yr10, ly10⟩
  try dsimp only
  iapply (wpc_bind c _ _)
  iapply (part10 x dy K c _ _ _ _ _ hv9) $$ [cr_ys1 owe at_ys1 ry11 t_ys1_1 t_yr11]
  · isplitr; · iexact HP
    isplitl [cr_ys1]; · iexact cr_ys1
    isplitl [owe]; · iexact owe
    isplitl [at_ys1]; · iexact at_ys1
    isplitl [ry11]; · iexact ry11
    isplitl [t_ys1_1]; · iexact t_ys1_1
    iexact t_yr11
  iintro %v ⟨cr_ys1, at_ys1, owe⟩
  obtain ⟨v303, c4_i32_256, v304⟩ := v
  try dsimp only
  iapply (wpc_bind c _ _)
  iapply (part11 x dy K c _ _ _ _ _ _ ) $$ [xm dys0 cr_yr01 owe at_yr01]
  · isplitr; · iexact HP
    isplitl [xm]; · iexact xm
    isplitl [dys0]; · iexact dys0
    isplitl [cr_yr01]; · iexact cr_yr01
    isplitl [owe]; · iexact owe
    iexact at_yr01
  iintro %v ⟨%hv11, xm, dys0, owe, at_yr01, ly01⟩
  obtain ⟨v320, v335⟩ := v
  dsimp only at hv11
  try dsimp only
  iapply (wpc_bind c _ _)
  iapply (part12 x dy K c _ _ _ _ _ _ hv11) $$ [cr_ys0 owe at_ys0 ry02 t_ys0_2 t_yr02]
  · isplitr; · iexact HP
    isplitl [cr_ys0]; · iexact cr_ys0
    isplitl [owe]; · iexact owe
    isplitl [at_ys0]; · iexact at_ys0
    isplitl [ry02]; · iexact ry02
    isplitl [t_ys0_2]; · iexact t_ys0_2
    iexact t_yr02
  iintro %v ⟨cr_ys0, at_ys0, owe⟩
  obtain ⟨v361, c4_i32_315, c0_i32_316⟩ := v
  try dsimp only
  iapply (wpc_bind c _ _)
  iapply (part13 x dy K c _ _ _ _ _ _ ) $$ [xm dys1 cr_yr11 owe at_yr11]
  · isplitr; · iexact HP
    isplitl [xm]; · iexact xm
    isplitl [dys1]; · iexact dys1
    isplitl [cr_yr11]; · iexact cr_yr11
    isplitl [owe]; · iexact owe
    iexact at_yr11
  iintro %v ⟨%hv13, xm, dys1, owe, at_yr11, ly11⟩
  obtain ⟨v378, v392⟩ := v
  dsimp only at hv13
  try dsimp only
  iapply (wpc_bind c _ _)
  iapply (part14 x dy K c _ _ _ _ _ _ hv13) $$ [cr_ys1 owe at_ys1 ry12 t_ys1_2 t_yr12]
  · isplitr; · iexact HP
    isplitl [cr_ys1]; · iexact cr_ys1
    isplitl [owe]; · iexact owe
    isplitl [at_ys1]; · iexact at_ys1
    isplitl [ry12]; · iexact ry12
    isplitl [t_ys1_2]; · iexact t_ys1_2
    iexact t_yr12
  iintro %w14 ⟨cr_ys1, at_ys1, owe⟩
  try dsimp only
  iapply (wpc_bind c _ _)
  iapply (part15 x dy K c _ _ _ _ _ ) $$ [xm dys0 cr_yr02 owe at_yr02 ost0]
  · isplitr; · iexact HP
    isplitl [xm]; · iexact xm
    isplitl [dys0]; · iexact dys0
    isplitl [cr_yr02]; · iexact cr_yr02
    isplitl [owe]; · iexact owe
    isplitl [at_yr02]; · iexact at_yr02
    iexact ost0
  iintro %w15 ⟨%hv15, xm, dys0, owe, at_yr02, ly02, ost0⟩
  try dsimp only
  iapply (wpc_bind c _ _)
  iapply (part16 x dy K c _ _ _ _ _ _ hv15) $$ [ost0 o00 t_out0_0 at_out0 sm rx00 owe t_xs00 at_xs00 t_xr00]
  · isplitr; · iexact HP
    isplitl [ost0]; · iexact ost0
    isplitl [o00]; · iexact o00
    isplitl [t_out0_0]; · iexact t_out0_0
    isplitl [at_out0]; · iexact at_out0
    isplitl [sm]; · iexact sm
    isplitl [rx00]; · iexact rx00
    isplitl [owe]; · iexact owe
    isplitl [t_xs00]; · iexact t_xs00
    isplitl [at_xs00]; · iexact at_xs00
    iexact t_xr00
  iintro ⟨cr_out0, at_out0, sm1, sm2, cr_xs00, at_xs00, owe⟩
  try dsimp only
  iapply (wpc_bind c _ _)
  iapply (part17 x dy K c _ _ _ _ _ _ ) $$ [sm1 rx01 owe t_xs01 at_xs01 t_xr01 sm2 rx02 t_xs02 at_xs02 t_xr02 xm dys1]
  · isplitr; · iexact HP
    isplitl [sm1]; · iexact sm1
    isplitl [rx01]; · iexact rx01
    isplitl [owe]; · iexact owe
    isplitl [t_xs01]; · iexact t_xs01
    isplitl [at_xs01]; · iexact at_xs01
    isplitl [t_xr01]; · iexact t_xr01
    isplitl [sm2]; · iexact sm2
    isplitl [rx02]; · iexact rx02
    isplitl [t_xs02]; · iexact t_xs02
    isplitl [at_xs02]; · iexact at_xs02
    isplitl [t_xr02]; · iexact t_xr02
    isplitl [xm]; · iexact xm
    iexact dys1
  iintro %w17 ⟨%hv17, cr_xs01, at_xs01, cr_xs02, at_xs02, owe, xm, dys1⟩
  try dsimp only
  iapply (wpc_bind c _ _)
  iapply (part18 x dy K c _ _ hv17) $$ [cr_yr12 owe at_yr12 ost1 o01 t_out1_0 at_out1 cr_xs00 at_xs00]
  · isplitr; · iexact HP
    isplitl [cr_yr12]; · iexact cr_yr12
    isplitl [owe]; · iexact owe
    isplitl [at_yr12]; · iexact at_yr12
    isplitl [ost1]; · iexact ost1
    isplitl [o01]; · iexact o01
    isplitl [t_out1_0]; · iexact t_out1_0
    isplitl [at_out1]; · iexact at_out1
    isplitl [cr_xs00]; · iexact cr_xs00
    iexact at_xs00
  iintro %w18 ⟨%hv18, at_yr12, ly12, cr_out1, at_out1, owe, at_xs00, sm0⟩
  try dsimp only
  iapply (wpc_bind c _ _)
  iapply (part19 x dy K c _ _ _ _ _ hv18) $$ [cr_xs01 owe at_xs01 cr_xs02 at_xs02 sm0 rx10 t_xs10 at_xs10 t_xr10]
  · isplitr; · iexact HP
    isplitl [cr_xs01]; · iexact cr_xs01
    isplitl [owe]; · iexact owe
    isplitl [at_xs01]; · iexact at_xs01
    isplitl [cr_xs02]; · iexact cr_xs02
    isplitl [at_xs02]; · iexact at_xs02
    isplitl [sm0]; · iexact sm0
    isplitl [rx10]; · iexact rx10
    isplitl [t_xs10]; · iexact t_xs10
    isplitl [at_xs10]; · iexact at_xs10
    iexact t_xr10
  iintro %v ⟨at_xs01, at_xs02, sm1, sm2, cr_xs10, at_xs10, owe⟩
  obtain ⟨v552, c4_i32_525⟩ := v
  try dsimp only
  iapply (wpc_bind c _ _)
  iapply (part20 x dy K c _ _ _ _ _ _ _ ) $$ [sm1 rx11 owe t_xs11 at_xs11 t_xr11 sm2 rx12 t_xs12 at_xs12 t_xr12]
  · isplitr; · iexact HP
    isplitl [sm1]; · iexact sm1
    isplitl [rx11]; · iexact rx11
    isplitl [owe]; · iexact owe
    isplitl [t_xs11]; · iexact t_xs11
    isplitl [at_xs11]; · iexact at_xs11
    isplitl [t_xr11]; · iexact t_xr11
    isplitl [sm2]; · iexact sm2
    isplitl [rx12]; · iexact rx12
    isplitl [t_xs12]; · iexact t_xs12
    isplitl [at_xs12]; · iexact at_xs12
    iexact t_xr12
  iintro ⟨cr_xs11, at_xs11, cr_xs12, at_xs12, owe⟩
  try dsimp only
  iapply (wpc_bind c _ _)
  iapply (part21 x dy K c _ _ _ _ ) $$ [cr_xr00 owe at_xr00 cr_out0 at_out0 o10 t_out0_1]
  · isplitr; · iexact HP
    isplitl [cr_xr00]; · iexact cr_xr00
    isplitl [owe]; · iexact owe
    isplitl [at_xr00]; · iexact at_xr00
    isplitl [cr_out0]; · iexact cr_out0
    isplitl [at_out0]; · iexact at_out0
    isplitl [o10]; · iexact o10
    iexact t_out0_1
  iintro ⟨at_xr00, owe, o00, lx00, cr_out0, at_out0⟩
  try dsimp only
  iapply (wpc_bind c _ _)
  iapply (part22 x dy K c _ _ _ ) $$ [cr_xr01 owe at_xr01 cr_out1 at_out1 o20 t_out1_1]
  · isplitr; · iexact HP
    isplitl [cr_xr01]; · iexact cr_xr01
    isplitl [owe]; · iexact owe
    isplitl [at_xr01]; · iexact at_xr01
    isplitl [cr_out1]; · iexact cr_out1
    isplitl [at_out1]; · iexact at_out1
    isplitl [o20]; · iexact o20
    iexact t_out1_1
  iintro %w22 ⟨at_xr01, owe, o01, lx01, cr_out1, at_out1⟩
  try dsimp only
  iapply (wpc_bind c _ _)
  iapply (part23 x dy K c _ _ _ _ ) $$ [cr_xr02 owe at_xr02 cr_out0 at_out0 o30 t_out0_2]
  · isplitr; · iexact HP
    isplitl [cr_xr02]; · iexact cr_xr02
    isplitl [owe]; · iexact owe
    isplitl [at_xr02]; · iexact at_xr02
    isplitl [cr_out0]; · iexact cr_out0
    isplitl [at_out0]; · iexact at_out0
    isplitl [o30]; · iexact o30
    iexact t_out0_2
  iintro %v ⟨at_xr02, owe, o10, lx02, cr_out0, at_out0⟩
  obtain ⟨v659, c0_i32_644⟩ := v
  try dsimp only
  iapply (wpc_bind c _ _)
  iapply (part24 x dy K c _ _ _ _ _ ) $$ [cr_xr10 owe at_xr10 cr_out1 at_out1 o11 t_out1_2]
  · isplitr; · iexact HP
    isplitl [cr_xr10]; · iexact cr_xr10
    isplitl [owe]; · iexact owe
    isplitl [at_xr10]; · iexact at_xr10
    isplitl [cr_out1]; · iexact cr_out1
    isplitl [at_out1]; · iexact at_out1
    isplitl [o11]; · iexact o11
    iexact t_out1_2
  iintro ⟨at_xr10, owe, o20, lx10, cr_out1, at_out1⟩
  try dsimp only
  iapply (wpc_bind c _ _)
  iapply (part25 x dy K c _ _ _ _ ) $$ [cr_xr11 owe at_xr11 cr_out0 at_out0 o21 t_out0_3]
  · isplitr; · iexact HP
    isplitl [cr_xr11]; · iexact cr_xr11
    isplitl [owe]; · iexact owe
    isplitl [at_xr11]; · iexact at_xr11
    isplitl [cr_out0]; · iexact cr_out0
    isplitl [at_out0]; · iexact at_out0
    isplitl [o21]; · iexact o21
    iexact t_out0_3
  iintro ⟨at_xr11, owe, o30, lx11, cr_out0, at_out0⟩
  try dsimp only
  iapply (wpc_bind c _ _)
  iapply (part26 x dy K c _ _ _ _ ) $$ [cr_xr12 owe at_xr12 cr_out1 at_out1]
  · isplitr; · iexact HP
    isplitl [cr_xr12]; · iexact cr_xr12
    isplitl [owe]; · iexact owe
    isplitl [at_xr12]; · iexact at_xr12
    isplitl [cr_out1]; · iexact cr_out1
    iexact at_out1
  iintro ⟨at_xr12, owe, at_out1, o11, lx12, ost1⟩
  try dsimp only
  iapply (wpc_bind c _ _)
  iapply (part27 x dy K c  ) $$ [ost1 o31 t_out1_3 at_out1 cr_ys0 owe at_ys0 cr_ys1 at_ys1 cr_xs10 at_xs10]
  · isplitr; · iexact HP
    isplitl [ost1]; · iexact ost1
    isplitl [o31]; · iexact o31
    isplitl [t_out1_3]; · iexact t_out1_3
    isplitl [at_out1]; · iexact at_out1
    isplitl [cr_ys0]; · iexact cr_ys0
    isplitl [owe]; · iexact owe
    isplitl [at_ys0]; · iexact at_ys0
    isplitl [cr_ys1]; · iexact cr_ys1
    isplitl [at_ys1]; · iexact at_ys1
    isplitl [cr_xs10]; · iexact cr_xs10
    iexact at_xs10
  iintro ⟨cr_out1, at_out1, at_ys0, stg0, at_ys1, stg1, owe, at_xs10, sm0⟩
  try dsimp only
  simp only [semSignalWord, semWaitWord, Prog.lift, Prog.bind_op, Prog.bind_ret, Prog.pure_eq_ret]
  iapply (wait_xs x dy K c 1 1 17 (by decide)) $$ [cr_xs11 owe at_xs11]
  · isplitr; · iexact HP
    isplitl [cr_xs11]; · iexact cr_xs11
    isplitl [owe]; · iexact owe
    iexact at_xs11
  iintro ⟨owe, at_xs11, sm1⟩
  iapply (wait_xs x dy K c 1 2 17 (by decide)) $$ [cr_xs12 owe at_xs12]
  · isplitr; · iexact HP
    isplitl [cr_xs12]; · iexact cr_xs12
    isplitl [owe]; · iexact owe
    iexact at_xs12
  iintro ⟨owe, at_xs12, sm2⟩
  iapply (wait_out x dy K c 0 3 17 (by decide) 2 1 rfl (by decide)) $$ [cr_out0 owe at_out0]
  · isplitr; · iexact HP
    isplitl [cr_out0]; · iexact cr_out0
    isplitl [owe]; · iexact owe
    iexact at_out0
  iintro ⟨owe, at_out0, o21, ost0⟩
  iapply (wpc_ret c _)
  iapply Hk
  isplitl [at_bar]; · iexact at_bar
  isplitl [at_dy0]; · iexact at_dy0
  isplitl [dysrc0]; · iexact dysrc0
  isplitl [at_dy1]; · iexact at_dy1
  isplitl [dysrc1]; · iexact dysrc1
  isplitl [at_yr00]; · iexact at_yr00
  isplitl [ly00]; · iexact ly00
  isplitl [at_yr10]; · iexact at_yr10
  isplitl [ly10]; · iexact ly10
  isplitl [at_yr01]; · iexact at_yr01
  isplitl [ly01]; · iexact ly01
  isplitl [at_yr11]; · iexact at_yr11
  isplitl [ly11]; · iexact ly11
  isplitl [dys0]; · iexact dys0
  isplitl [at_yr02]; · iexact at_yr02
  isplitl [ly02]; · iexact ly02
  isplitl [xm]; · iexact xm
  isplitl [dys1]; · iexact dys1
  isplitl [at_yr12]; · iexact at_yr12
  isplitl [ly12]; · iexact ly12
  isplitl [at_xs00]; · iexact at_xs00
  isplitl [at_xs01]; · iexact at_xs01
  isplitl [at_xs02]; · iexact at_xs02
  isplitl [at_xr00]; · iexact at_xr00
  isplitl [o00]; · iexact o00
  isplitl [lx00]; · iexact lx00
  isplitl [at_xr01]; · iexact at_xr01
  isplitl [o01]; · iexact o01
  isplitl [lx01]; · iexact lx01
  isplitl [at_xr02]; · iexact at_xr02
  isplitl [o10]; · iexact o10
  isplitl [lx02]; · iexact lx02
  isplitl [at_xr10]; · iexact at_xr10
  isplitl [o20]; · iexact o20
  isplitl [lx10]; · iexact lx10
  isplitl [at_xr11]; · iexact at_xr11
  isplitl [o30]; · iexact o30
  isplitl [lx11]; · iexact lx11
  isplitl [at_xr12]; · iexact at_xr12
  isplitl [o11]; · iexact o11
  isplitl [lx12]; · iexact lx12
  isplitl [cr_out1]; · iexact cr_out1
  isplitl [at_out1]; · iexact at_out1
  isplitl [at_ys0]; · iexact at_ys0
  isplitl [stg0]; · iexact stg0
  isplitl [at_ys1]; · iexact at_ys1
  isplitl [stg1]; · iexact stg1
  isplitl [at_xs10]; · iexact at_xs10
  isplitl [sm0]; · iexact sm0
  isplitl [at_xs11]; · iexact at_xs11
  isplitl [sm1]; · iexact sm1
  isplitl [at_xs12]; · iexact at_xs12
  isplitl [sm2]; · iexact sm2
  isplitl [owe]; · iexact owe
  isplitl [at_out0]; · iexact at_out0
  isplitl [o21]; · iexact o21
  iexact ost0

/-- The body: from what a device starts with to what it ends with. -/
theorem body {Q : PUnit → sProp 𝕄} (c : Dev nD) :
    iprop(PER x dy K ∗ OWE c 0 ∗ has c XM (x c) ∗ cred (tallyAt (kcell c .bar) () 5) ∗ AT c .bar 0 ∗ TOK (lft c) .bar 0 0 ∗ TOK (rgt c) .bar 0 1 ∗
        TOK (prt 0 c) .bar 0 2 ∗ TOK (prt 1 c) .bar 0 3 ∗ TOK (prt 2 c) .bar 0 4 ∗ AT c (.dy 0) 0 ∗ TOK c (.dy 0) 0 0 ∗ AT c (.out 0) 0 ∗ TOK c
            (.out 0) 0 0 ∗ TOK c (.out 0) 1 0 ∗ TOK c (.out 0) 2 0 ∗ TOK c (.out 0) 3 0 ∗ AT c (.ys 0) 0 ∗ TOK c (.ys 0) 0 0 ∗ TOK c (.ys 0) 1 0 ∗
                TOK c (.ys 0) 2 0 ∗ AT c (.yr 0 0) 0 ∗ TOK (rgt c) (.yr 0 0) 0 0 ∗ CR c (.yr 0 0) ∗ AT c (.xs 0 0) 0 ∗ TOK c (.xs 0 0) 0 0 ∗ AT c
                    (.xr 0 0) 0 ∗ TOK (prt 0 c) (.xr 0 0) 0 0 ∗ CR c (.xr 0 0) ∗ AT c (.yr 0 1) 0 ∗ TOK (rgt c) (.yr 0 1) 0 0 ∗ CR c (.yr 0 1) ∗ AT
            c (.xs 0 1) 0 ∗ TOK c (.xs 0 1) 0 0 ∗ AT c (.xr 0 1) 0 ∗ TOK (prt 1 c) (.xr 0 1) 0 0 ∗ CR c (.xr 0 1) ∗ AT c (.yr 0 2) 0 ∗ TOK (rgt c)
                (.yr 0 2) 0 0 ∗ CR c (.yr 0 2) ∗ AT c (.xs 0 2) 0 ∗ TOK c (.xs 0 2) 0 0 ∗ AT c (.xr 0 2) 0 ∗ TOK (prt 2 c) (.xr 0 2) 0 0 ∗ CR c
                    (.xr 0 2) ∗ dySrc dy c 0 ∗ hasAny c (DYS 0) ∗ hasAny c (STG 0) ∗ hasAny c (OST 0) ∗ hasAny c (OUTS c 0 0) ∗ hasAny c (OUTS c 1
            0) ∗ hasAny c (OUTS c 2 0) ∗ hasAny c (OUTS c 3 0) ∗ AT c (.dy 1) 0 ∗ TOK c (.dy 1) 0 0 ∗ AT c (.out 1) 0 ∗ TOK c (.out 1) 0 0 ∗ TOK c
                (.out 1) 1 0 ∗ TOK c (.out 1) 2 0 ∗ TOK c (.out 1) 3 0 ∗ AT c (.ys 1) 0 ∗ TOK c (.ys 1) 0 0 ∗ TOK c (.ys 1) 1 0 ∗ TOK c (.ys 1) 2 0
                    ∗ AT c (.yr 1 0) 0 ∗ TOK (rgt c) (.yr 1 0) 0 0 ∗ CR c (.yr 1 0) ∗ AT c (.xs 1 0) 0 ∗ TOK c (.xs 1 0) 0 0 ∗ AT c (.xr 1 0) 0 ∗
            TOK (prt 0 c) (.xr 1 0) 0 0 ∗ CR c (.xr 1 0) ∗ AT c (.yr 1 1) 0 ∗ TOK (rgt c) (.yr 1 1) 0 0 ∗ CR c (.yr 1 1) ∗ AT c (.xs 1 1) 0 ∗ TOK c
                (.xs 1 1) 0 0 ∗ AT c (.xr 1 1) 0 ∗ TOK (prt 1 c) (.xr 1 1) 0 0 ∗ CR c (.xr 1 1) ∗ AT c (.yr 1 2) 0 ∗ TOK (rgt c) (.yr 1 2) 0 0 ∗ CR
                    c (.yr 1 2) ∗ AT c (.xs 1 2) 0 ∗ TOK c (.xs 1 2) 0 0 ∗ AT c (.xr 1 2) 0 ∗ TOK (prt 2 c) (.xr 1 2) 0 0 ∗ CR c (.xr 1 2) ∗ dySrc
            dy c 1 ∗ hasAny c (DYS 1) ∗ hasAny c (STG 1) ∗ hasAny c (OST 1) ∗ hasAny c (OUTS c 0 1) ∗ hasAny c (OUTS c 1 1) ∗ hasAny c (OUTS c 2 1)
                ∗ hasAny c (OUTS c 3 1) ∗ yslots c ∗ xslots 0 c ∗ xslots 1 c ∗ xslots 2 c ∗ hasAny c SM)
      ⊢ iprop(((AT c .bar 1 ∗ AT c (.dy 0) 1 ∗ dySrc dy c 0 ∗ AT c (.dy 1) 1 ∗ dySrc dy c 1 ∗ AT c (.yr 0 0) 1 ∗ has c (YR 0 0) (SND x dy 0 (lft c)
          0) ∗ AT c (.yr 1 0) 1 ∗ has c (YR 1 0) (SND x dy 0 (lft c) 1) ∗ AT c (.yr 0 1) 1 ∗ has c (YR 0 1) (SND x dy 1 (lft c) 0) ∗ AT c (.yr 1 1)
              1 ∗ has c (YR 1 1) (SND x dy 1 (lft c) 1) ∗ has c (DYS 0) (DYB dy c 0) ∗ AT c (.yr 0 2) 1 ∗ has c (YR 0 2) (SND x dy 2 (lft c) 0) ∗
                  has c XM (x c) ∗ has c (DYS 1) (DYB dy c 1) ∗ AT c (.yr 1 2) 1 ∗ has c (YR 1 2) (SND x dy 2 (lft c) 1) ∗ AT c (.xs 0 0) 1 ∗ AT c
            (.xs 0 1) 1 ∗ AT c (.xs 0 2) 1 ∗ AT c (.xr 0 0) 1 ∗ has c (OUTS c 0 0) (OV x dy c 0 0) ∗ has c (XR 0 0) (XSV x dy (prt 0 c) 0) ∗ AT c
                (.xr 0 1) 1 ∗ has c (OUTS c 0 1) (OV x dy c 0 1) ∗ has c (XR 0 1) (XSV x dy (prt 1 c) 0) ∗ AT c (.xr 0 2) 1 ∗ has c (OUTS c 1 0)
                    (OV x dy c 1 0) ∗ has c (XR 0 2) (XSV x dy (prt 2 c) 0) ∗ AT c (.xr 1 0) 1 ∗ has c (OUTS c 2 0) (OV x dy c 2 0) ∗ has c (XR 1
            0) (XSV x dy (prt 0 c) 1) ∗ AT c (.xr 1 1) 1 ∗ has c (OUTS c 3 0) (OV x dy c 3 0) ∗ has c (XR 1 1) (XSV x dy (prt 1 c) 1) ∗ AT c (.xr 1
                2) 1 ∗ has c (OUTS c 1 1) (OV x dy c 1 1) ∗ has c (XR 1 2) (XSV x dy (prt 2 c) 1) ∗ AT c (.ys 0) 3 ∗ hasAny c (STG 0) ∗ AT c (.ys
                    1) 3 ∗ hasAny c (STG 1) ∗ AT c (.xs 1 0) 1 ∗ owns (c : Thread nD τ) SM (xsh 0) (XSV x dy c 1) ∗ AT c (.xs 1 1) 1 ∗ owns (c :
            Thread nD τ) SM (xsh 1) (XSV x dy c 1) ∗ AT c (.xs 1 2) 1 ∗ owns (c : Thread nD τ) SM (xsh 2) (XSV x dy c 1) ∗ AT c (.out 0) 4 ∗ has c
                (OUTS c 2 1) (OV x dy c 2 1) ∗ hasAny c (OST 0) ∗ OWE c 17 ∗ AT c (.out 1) 4 ∗ has c (OUTS c 3 1) (OV x dy c 3 1) ∗ hasAny c (OST
                    1)) -∗ Q ⟨⟩)
        -∗ wpc c (cc0_body (F := F) XM (Memref.isWhole_whole _) DYM (Memref.isWhole_whole _) OM (Memref.isWhole_whole _) DM (Memref.isWhole_whole
            _) GM (Memref.isWhole_whole _) YM (Memref.isWhole_whole _) SM (Memref.isWhole_whole _) RM (Memref.isWhole_whole _) PM
                (Memref.isWhole_whole _) cc0_scratch6 cc0_scratch7 cc0_scratch8 cc0_scratch9 cc0_scratch10 cc0_scratch11) Q) := by
  rw [cc0_body_eq_skeleton]
  unfold cc0_body_skel
  iintro ⟨#HP, owe, xm, pbar, at_bar, t_bar0, t_bar1, t_bar2, t_bar3, t_bar4, at_dy0, t_dy0, at_out0, t_out0_0, t_out0_1, t_out0_2, t_out0_3,
      at_ys0, t_ys0_0, t_ys0_1, t_ys0_2, at_yr00, t_yr00, cr_yr00, at_xs00, t_xs00, at_xr00, t_xr00, cr_xr00, at_yr01, t_yr01, cr_yr01, at_xs01,
          t_xs01, at_xr01, t_xr01, cr_xr01, at_yr02, t_yr02, cr_yr02, at_xs02, t_xs02, at_xr02, t_xr02, cr_xr02, dysrc0, dys0, stg0, ost0, o00,
              o10, o20, o30, at_dy1, t_dy1, at_out1, t_out1_0, t_out1_1, t_out1_2, t_out1_3, at_ys1, t_ys1_0, t_ys1_1, t_ys1_2, at_yr10, t_yr10,
                  cr_yr10, at_xs10, t_xs10, at_xr10, t_xr10, cr_xr10, at_yr11, t_yr11, cr_yr11, at_xs11, t_xs11, at_xr11, t_xr11, cr_xr11, at_yr12,
            t_yr12, cr_yr12, at_xs12, t_xs12, at_xr12, t_xr12, cr_xr12, dysrc1, dys1, stg1, ost1, o01, o11, o21, o31, ysl, xsl0, xsl1, xsl2, sm⟩ Hk
  iapply (wpc_bind c _ _)
  iapply (part28 x dy K c) $$ [owe xm pbar at_bar t_bar0 t_bar1 t_bar2 t_bar3 t_bar4 at_dy0 t_dy0 at_out0 t_out0_0 t_out0_1 t_out0_2 t_out0_3
      at_ys0 t_ys0_0 t_ys0_1 t_ys0_2 at_yr00 t_yr00 cr_yr00 at_xs00 t_xs00 at_xr00 t_xr00 cr_xr00 at_yr01 t_yr01 cr_yr01 at_xs01 t_xs01 at_xr01
          t_xr01 cr_xr01 at_yr02 t_yr02 cr_yr02 at_xs02 t_xs02 at_xr02 t_xr02 cr_xr02 dysrc0 dys0 stg0 ost0 o00 o10 o20 o30 at_dy1 t_dy1 at_out1
              t_out1_0 t_out1_1 t_out1_2 t_out1_3 at_ys1 t_ys1_0 t_ys1_1 t_ys1_2 at_yr10 t_yr10 cr_yr10 at_xs10 t_xs10 at_xr10 t_xr10 cr_xr10
                  at_yr11 t_yr11 cr_yr11 at_xs11 t_xs11 at_xr11 t_xr11 cr_xr11 at_yr12 t_yr12 cr_yr12 at_xs12 t_xs12 at_xr12 t_xr12 cr_xr12 dysrc1
            dys1 stg1 ost1 o01 o11 o21 o31 ysl xsl0 xsl1 xsl2 sm]
  · isplitr; · iexact HP
    isplitl [owe]; · iexact owe
    isplitl [xm]; · iexact xm
    isplitl [pbar]; · iexact pbar
    isplitl [at_bar]; · iexact at_bar
    isplitl [t_bar0]; · iexact t_bar0
    isplitl [t_bar1]; · iexact t_bar1
    isplitl [t_bar2]; · iexact t_bar2
    isplitl [t_bar3]; · iexact t_bar3
    isplitl [t_bar4]; · iexact t_bar4
    isplitl [at_dy0]; · iexact at_dy0
    isplitl [t_dy0]; · iexact t_dy0
    isplitl [at_out0]; · iexact at_out0
    isplitl [t_out0_0]; · iexact t_out0_0
    isplitl [t_out0_1]; · iexact t_out0_1
    isplitl [t_out0_2]; · iexact t_out0_2
    isplitl [t_out0_3]; · iexact t_out0_3
    isplitl [at_ys0]; · iexact at_ys0
    isplitl [t_ys0_0]; · iexact t_ys0_0
    isplitl [t_ys0_1]; · iexact t_ys0_1
    isplitl [t_ys0_2]; · iexact t_ys0_2
    isplitl [at_yr00]; · iexact at_yr00
    isplitl [t_yr00]; · iexact t_yr00
    isplitl [cr_yr00]; · iexact cr_yr00
    isplitl [at_xs00]; · iexact at_xs00
    isplitl [t_xs00]; · iexact t_xs00
    isplitl [at_xr00]; · iexact at_xr00
    isplitl [t_xr00]; · iexact t_xr00
    isplitl [cr_xr00]; · iexact cr_xr00
    isplitl [at_yr01]; · iexact at_yr01
    isplitl [t_yr01]; · iexact t_yr01
    isplitl [cr_yr01]; · iexact cr_yr01
    isplitl [at_xs01]; · iexact at_xs01
    isplitl [t_xs01]; · iexact t_xs01
    isplitl [at_xr01]; · iexact at_xr01
    isplitl [t_xr01]; · iexact t_xr01
    isplitl [cr_xr01]; · iexact cr_xr01
    isplitl [at_yr02]; · iexact at_yr02
    isplitl [t_yr02]; · iexact t_yr02
    isplitl [cr_yr02]; · iexact cr_yr02
    isplitl [at_xs02]; · iexact at_xs02
    isplitl [t_xs02]; · iexact t_xs02
    isplitl [at_xr02]; · iexact at_xr02
    isplitl [t_xr02]; · iexact t_xr02
    isplitl [cr_xr02]; · iexact cr_xr02
    isplitl [dysrc0]; · iexact dysrc0
    isplitl [dys0]; · iexact dys0
    isplitl [stg0]; · iexact stg0
    isplitl [ost0]; · iexact ost0
    isplitl [o00]; · iexact o00
    isplitl [o10]; · iexact o10
    isplitl [o20]; · iexact o20
    isplitl [o30]; · iexact o30
    isplitl [at_dy1]; · iexact at_dy1
    isplitl [t_dy1]; · iexact t_dy1
    isplitl [at_out1]; · iexact at_out1
    isplitl [t_out1_0]; · iexact t_out1_0
    isplitl [t_out1_1]; · iexact t_out1_1
    isplitl [t_out1_2]; · iexact t_out1_2
    isplitl [t_out1_3]; · iexact t_out1_3
    isplitl [at_ys1]; · iexact at_ys1
    isplitl [t_ys1_0]; · iexact t_ys1_0
    isplitl [t_ys1_1]; · iexact t_ys1_1
    isplitl [t_ys1_2]; · iexact t_ys1_2
    isplitl [at_yr10]; · iexact at_yr10
    isplitl [t_yr10]; · iexact t_yr10
    isplitl [cr_yr10]; · iexact cr_yr10
    isplitl [at_xs10]; · iexact at_xs10
    isplitl [t_xs10]; · iexact t_xs10
    isplitl [at_xr10]; · iexact at_xr10
    isplitl [t_xr10]; · iexact t_xr10
    isplitl [cr_xr10]; · iexact cr_xr10
    isplitl [at_yr11]; · iexact at_yr11
    isplitl [t_yr11]; · iexact t_yr11
    isplitl [cr_yr11]; · iexact cr_yr11
    isplitl [at_xs11]; · iexact at_xs11
    isplitl [t_xs11]; · iexact t_xs11
    isplitl [at_xr11]; · iexact at_xr11
    isplitl [t_xr11]; · iexact t_xr11
    isplitl [cr_xr11]; · iexact cr_xr11
    isplitl [at_yr12]; · iexact at_yr12
    isplitl [t_yr12]; · iexact t_yr12
    isplitl [cr_yr12]; · iexact cr_yr12
    isplitl [at_xs12]; · iexact at_xs12
    isplitl [t_xs12]; · iexact t_xs12
    isplitl [at_xr12]; · iexact at_xr12
    isplitl [t_xr12]; · iexact t_xr12
    isplitl [cr_xr12]; · iexact cr_xr12
    isplitl [dysrc1]; · iexact dysrc1
    isplitl [dys1]; · iexact dys1
    isplitl [stg1]; · iexact stg1
    isplitl [ost1]; · iexact ost1
    isplitl [o01]; · iexact o01
    isplitl [o11]; · iexact o11
    isplitl [o21]; · iexact o21
    isplitl [o31]; · iexact o31
    isplitl [ysl]; · iexact ysl
    isplitl [xsl0]; · iexact xsl0
    isplitl [xsl1]; · iexact xsl1
    isplitl [xsl2]; · iexact xsl2
    iexact sm
  iintro ⟨at_bar, at_dy0, dysrc0, at_dy1, dysrc1, at_yr00, ly00, at_yr10, ly10, at_yr01, ly01, at_yr11, ly11, dys0, at_yr02, ly02, xm, dys1,
      at_yr12, ly12, at_xs00, at_xs01, at_xs02, at_xr00, o00, lx00, at_xr01, o01, lx01, at_xr02, o10, lx02, at_xr10, o20, lx10, at_xr11, o30, lx11,
          at_xr12, o11, lx12, cr_out1, at_out1, at_ys0, stg0, at_ys1, stg1, at_xs10, sm0, at_xs11, sm1, at_xs12, sm2, owe, at_out0, o21, ost0⟩
  simp only [semSignalWord, semWaitWord, Prog.lift, Prog.bind_op, Prog.bind_ret, Prog.pure_eq_ret]
  iapply (wait_out x dy K c 1 3 17 (by decide) 3 1 rfl (by decide)) $$ [cr_out1 owe at_out1]
  · isplitr; · iexact HP
    isplitl [cr_out1]; · iexact cr_out1
    isplitl [owe]; · iexact owe
    iexact at_out1
  iintro ⟨owe, at_out1, o31, ost1⟩
  iapply (wpc_ret c _)
  iapply Hk
  isplitl [at_bar]; · iexact at_bar
  isplitl [at_dy0]; · iexact at_dy0
  isplitl [dysrc0]; · iexact dysrc0
  isplitl [at_dy1]; · iexact at_dy1
  isplitl [dysrc1]; · iexact dysrc1
  isplitl [at_yr00]; · iexact at_yr00
  isplitl [ly00]; · iexact ly00
  isplitl [at_yr10]; · iexact at_yr10
  isplitl [ly10]; · iexact ly10
  isplitl [at_yr01]; · iexact at_yr01
  isplitl [ly01]; · iexact ly01
  isplitl [at_yr11]; · iexact at_yr11
  isplitl [ly11]; · iexact ly11
  isplitl [dys0]; · iexact dys0
  isplitl [at_yr02]; · iexact at_yr02
  isplitl [ly02]; · iexact ly02
  isplitl [xm]; · iexact xm
  isplitl [dys1]; · iexact dys1
  isplitl [at_yr12]; · iexact at_yr12
  isplitl [ly12]; · iexact ly12
  isplitl [at_xs00]; · iexact at_xs00
  isplitl [at_xs01]; · iexact at_xs01
  isplitl [at_xs02]; · iexact at_xs02
  isplitl [at_xr00]; · iexact at_xr00
  isplitl [o00]; · iexact o00
  isplitl [lx00]; · iexact lx00
  isplitl [at_xr01]; · iexact at_xr01
  isplitl [o01]; · iexact o01
  isplitl [lx01]; · iexact lx01
  isplitl [at_xr02]; · iexact at_xr02
  isplitl [o10]; · iexact o10
  isplitl [lx02]; · iexact lx02
  isplitl [at_xr10]; · iexact at_xr10
  isplitl [o20]; · iexact o20
  isplitl [lx10]; · iexact lx10
  isplitl [at_xr11]; · iexact at_xr11
  isplitl [o30]; · iexact o30
  isplitl [lx11]; · iexact lx11
  isplitl [at_xr12]; · iexact at_xr12
  isplitl [o11]; · iexact o11
  isplitl [lx12]; · iexact lx12
  isplitl [at_ys0]; · iexact at_ys0
  isplitl [stg0]; · iexact stg0
  isplitl [at_ys1]; · iexact at_ys1
  isplitl [stg1]; · iexact stg1
  isplitl [at_xs10]; · iexact at_xs10
  isplitl [sm0]; · iexact sm0
  isplitl [at_xs11]; · iexact at_xs11
  isplitl [sm1]; · iexact sm1
  isplitl [at_xs12]; · iexact at_xs12
  isplitl [sm2]; · iexact sm2
  isplitl [at_out0]; · iexact at_out0
  isplitl [o21]; · iexact o21
  isplitl [ost0]; · iexact ost0
  isplitl [owe]; · iexact owe
  isplitl [at_out1]; · iexact at_out1
  isplitl [o31]; · iexact o31
  iexact ost1

end Cert.Wgrad

end
-- ==== Proof.Slots.lean ====
/-
The buffers' parts, split from the whole buffers and joined again; what the whole result holds.
-/
module

public import proofs.«01_k».proof.Proof.Steps

@[expose] public section

noncomputable section

namespace Cert.Wgrad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The parts tile -/

theorem rD_disjoint (t t' : Fin 2) (h : t ≠ t') : Disjoint (rD t).set (rD t').set :=
  Rect.unit_disjoint (0 : Fin 3) (by
    have : t.val ≠ t'.val := fun e => h (Fin.ext e)
    show t.val + 1 ≤ t'.val ∨ t'.val + 1 ≤ t.val
    omega)
theorem rD_cover (i : S2x2048x1024.Idx) : ∃ t, i ∈ (rD t).set :=
  ⟨i 0, Rect.mem_set_unit.mpr fun a => by
    fin_cases a
    · exact ⟨le_refl _, Nat.lt_succ_self _⟩
    · exact ⟨Nat.zero_le _, by show (i 1).val < 0 + 2048; rw [Nat.zero_add]; exact (i 1).isLt⟩
    · exact ⟨Nat.zero_le _, by show (i 2).val < 0 + 1024; rw [Nat.zero_add]; exact (i 2).isLt⟩⟩

theorem rG_disjoint (t t' : Fin 2) (h : t ≠ t') : Disjoint (rG t).set (rG t').set :=
  Rect.unit_disjoint (0 : Fin 3) (by
    have : t.val ≠ t'.val := fun e => h (Fin.ext e)
    show t.val + 1 ≤ t'.val ∨ t'.val + 1 ≤ t.val
    omega)
theorem rG_cover (i : S2x512x1024.Idx) : ∃ t, i ∈ (rG t).set :=
  ⟨i 0, Rect.mem_set_unit.mpr fun a => by
    fin_cases a
    · exact ⟨le_refl _, Nat.lt_succ_self _⟩
    · exact ⟨Nat.zero_le _, by show (i 1).val < 0 + 512; rw [Nat.zero_add]; exact (i 1).isLt⟩
    · exact ⟨Nat.zero_le _, by show (i 2).val < 0 + 1024; rw [Nat.zero_add]; exact (i 2).isLt⟩⟩

theorem rY_disjoint (t t' : Fin 2 × Fin 3) (h : t ≠ t') : Disjoint (rY t.1 t.2).set (rY t'.1 t'.2).set := by
  by_cases h0 : t.1.val = t'.1.val
  · refine Rect.unit_disjoint (1 : Fin 4) ?_
    have : t.2.val ≠ t'.2.val := fun e => h (Prod.ext (Fin.ext h0) (Fin.ext e))
    show t.2.val + 1 ≤ t'.2.val ∨ t'.2.val + 1 ≤ t.2.val
    omega
  · refine Rect.unit_disjoint (0 : Fin 4) ?_
    show t.1.val + 1 ≤ t'.1.val ∨ t'.1.val + 1 ≤ t.1.val
    omega
theorem rY_cover (i : S2x3x512x1024.Idx) : ∃ t : Fin 2 × Fin 3, i ∈ (rY t.1 t.2).set :=
  ⟨(i 0, i 1), Rect.mem_set_unit.mpr fun a => by
    fin_cases a
    · exact ⟨le_refl _, Nat.lt_succ_self _⟩
    · exact ⟨le_refl _, Nat.lt_succ_self _⟩
    · exact ⟨Nat.zero_le _, by show (i 2).val < 0 + 512; rw [Nat.zero_add]; exact (i 2).isLt⟩
    · exact ⟨Nat.zero_le _, by show (i 3).val < 0 + 1024; rw [Nat.zero_add]; exact (i 3).isLt⟩⟩

/-- Which of a device's four sources computes quarter `Q` of the columns. -/
def qOf (c : Dev nD) (Q : ℕ) : Fin 4 :=
  if quarter c = Q then 0 else if quarter (prt 0 c) = Q then 1 else if quarter (prt 1 c) = Q then 2 else 3

theorem quarter_qOf (c : Dev nD) (Q : Fin 4) : quarter (srcDev c (qOf c Q.val)) = Q.val := by revert c Q; decide +kernel
theorem qOf_quarter (c : Dev nD) (q : Fin 4) : qOf c (quarter (srcDev c q)) = q := by revert c q; decide +kernel

theorem rO_disjoint (c : Dev nD) (t t' : Fin 4 × Fin 2) (h : t ≠ t') : Disjoint (rO c t.1 t.2).set (rO c t'.1 t'.2).set := by
  refine Rect.unit_disjoint (1 : Fin 2) ?_
  rw [outOff_eq, outOff_eq]
  show 2048 * quarter (srcDev c t.1) + 1024 * t.2.val + 1024 ≤ 2048 * quarter (srcDev c t'.1) + 1024 * t'.2.val
    ∨ 2048 * quarter (srcDev c t'.1) + 1024 * t'.2.val + 1024 ≤ 2048 * quarter (srcDev c t.1) + 1024 * t.2.val
  have h2 := t.2.isLt
  have h2' := t'.2.isLt
  have hne : quarter (srcDev c t.1) ≠ quarter (srcDev c t'.1) ∨ t.2.val ≠ t'.2.val := by
    by_contra hc
    have hc := not_or.mp hc
    refine h (Prod.ext ?_ (Fin.ext (Classical.not_not.mp hc.2)))
    rw [← qOf_quarter c t.1, Classical.not_not.mp hc.1, qOf_quarter]
  omega

/-- The half of the quarter column `n` is in. -/
def halfOf (n : ℕ) : Fin 2 := ⟨n % 2048 / 1024, by omega⟩

theorem rO_cover (c : Dev nD) (i : S512x8192.Idx) : ∃ t : Fin 4 × Fin 2, i ∈ (rO c t.1 t.2).set := by
  have hi : (i 1).val < 8192 := (i 1).isLt
  refine ⟨(qOf c ((i 1).val / 2048), halfOf (i 1).val), Rect.mem_set_unit.mpr fun a => ?_⟩
  rw [outOff_eq]
  have hq : quarter (srcDev c (qOf c ((i 1).val / 2048))) = (i 1).val / 2048 := quarter_qOf c ⟨(i 1).val / 2048, by omega⟩
  fin_cases a
  · exact ⟨Nat.zero_le _, by show (i 0).val < 0 + 512; rw [Nat.zero_add]; exact (i 0).isLt⟩
  · show 2048 * quarter (srcDev c (qOf c ((i 1).val / 2048))) + 1024 * ((i 1).val % 2048 / 1024) ≤ (i 1).val
      ∧ (i 1).val < 2048 * quarter (srcDev c (qOf c ((i 1).val / 2048))) + 1024 * ((i 1).val % 2048 / 1024) + 1024
    rw [hq]
    omega

/-! ## The whole buffers -/

omit [FloatOps F] in
theorem bigSep_two (Φ : Fin 2 → sProp 𝕄) : bigSep Finset.univ Φ = iprop(Φ 0 ∗ Φ 1) := bigSep_univ_eq_bigSepL [0, 1] (by decide) (by decide) Φ
omit [FloatOps F] in
theorem bigSep_six (Φ : Fin 2 × Fin 3 → sProp 𝕄) :
    bigSep Finset.univ Φ = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ
omit [FloatOps F] in
theorem bigSep_eight (Φ : Fin 4 × Fin 2 → sProp 𝕄) :
    bigSep Finset.univ Φ = iprop(Φ (0, 0) ∗ Φ (1, 0) ∗ Φ (2, 0) ∗ Φ (3, 0) ∗ Φ (0, 1) ∗ Φ (1, 1) ∗ Φ (2, 1) ∗ Φ (3, 1)) :=
  bigSep_univ_eq_bigSepL [(0, 0), (1, 0), (2, 0), (3, 0), (0, 1), (1, 1), (2, 1), (3, 1)] (by decide) (by decide) Φ

/-- Device `c` holds all of buffer `b`, whatever is in it. -/
abbrev buf (c : Dev nD) (b : Ref sig .tc) : sProp 𝕄 := iprop(∃ f : Buf (Elt F) ((c : Thread nD τ).loc b), (c : Thread nD τ).loc b ↦{fullShare} f)

section Bufs

variable (c : Dev nD)

theorem open_dys : buf (F := F) c cc0_scratch0 ⊢ iprop(hasAny c (DYS 0) ∗ hasAny c (DYS 1)) := by
  rw [← bigSep_two (fun s => hasAny c (DYS s))]
  exact split_slots c cc0_scratch0 rD (fun _ _ => rfl) (fun _ => squeezes_S1x2048x1024_S2048x1024) rD_disjoint rD_cover
theorem close_dys : iprop(hasAny c (DYS 0) ∗ hasAny c (DYS 1)) ⊢ buf (F := F) c cc0_scratch0 := by
  rw [← bigSep_two (fun s => hasAny c (DYS s))]
  exact join_slots c cc0_scratch0 rD (fun _ _ => rfl) (fun _ => squeezes_S1x2048x1024_S2048x1024) rD_disjoint rD_cover 0
theorem open_stg : buf (F := F) c cc0_scratch1 ⊢ iprop(hasAny c (STG 0) ∗ hasAny c (STG 1)) := by
  rw [← bigSep_two (fun s => hasAny c (STG s))]
  exact split_slots c cc0_scratch1 rG (fun _ _ => rfl) (fun _ => squeezes_S1x512x1024_S512x1024) rG_disjoint rG_cover
theorem close_stg : iprop(hasAny c (STG 0) ∗ hasAny c (STG 1)) ⊢ buf (F := F) c cc0_scratch1 := by
  rw [← bigSep_two (fun s => hasAny c (STG s))]
  exact join_slots c cc0_scratch1 rG (fun _ _ => rfl) (fun _ => squeezes_S1x512x1024_S512x1024) rG_disjoint rG_cover 0
theorem open_ost : buf (F := F) c cc0_scratch5 ⊢ iprop(hasAny c (OST 0) ∗ hasAny c (OST 1)) := by
  rw [← bigSep_two (fun s => hasAny c (OST s))]
  exact split_slots c cc0_scratch5 rG (fun _ _ => rfl) (fun _ => squeezes_S1x512x1024_S512x1024) rG_disjoint rG_cover
theorem close_ost : iprop(hasAny c (OST 0) ∗ hasAny c (OST 1)) ⊢ buf (F := F) c cc0_scratch5 := by
  rw [← bigSep_two (fun s => hasAny c (OST s))]
  exact join_slots c cc0_scratch5 rG (fun _ _ => rfl) (fun _ => squeezes_S1x512x1024_S512x1024) rG_disjoint rG_cover 0
theorem open_yr : buf (F := F) c cc0_scratch2 ⊢ yslots c := by
  unfold yslots
  rw [← bigSep_six (fun t => hasAny c (YR t.1 t.2))]
  exact split_slots c cc0_scratch2 (fun t : Fin 2 × Fin 3 => rY t.1 t.2) (fun _ _ => rfl) (fun _ => squeezes_S1x1x512x1024_S512x1024) rY_disjoint rY_cover
theorem close_yr : iprop(hasAny c (YR 0 0) ∗ hasAny c (YR 0 1) ∗ hasAny c (YR 0 2) ∗ hasAny c (YR 1 0) ∗ hasAny c (YR 1 1) ∗ hasAny c (YR 1 2))
    ⊢ buf (F := F) c cc0_scratch2 := by
  rw [← bigSep_six (fun t => hasAny c (YR t.1 t.2))]
  exact join_slots c cc0_scratch2 (fun t : Fin 2 × Fin 3 => rY t.1 t.2) (fun _ _ => rfl) (fun _ => squeezes_S1x1x512x1024_S512x1024) rY_disjoint rY_cover (0, 0)
theorem open_xr : buf (F := F) c cc0_scratch4 ⊢ iprop(xslots 0 c ∗ xslots 1 c ∗ xslots 2 c) := by
  have h : buf (F := F) c cc0_scratch4 ⊢ (bigSep Finset.univ fun t : Fin 2 × Fin 3 => hasAny c (XR t.1 t.2) : sProp 𝕄) :=
    split_slots c cc0_scratch4 (fun t : Fin 2 × Fin 3 => rY t.1 t.2) (fun _ _ => rfl) (fun _ => squeezes_S1x1x512x1024_S512x1024) rY_disjoint rY_cover
  rw [bigSep_six] at h
  unfold xslots
  iintro H
  ihave H := h $$ H
  icases H with ⟨H00, H01, H02, H10, H11, H12⟩
  isplitl [H00 H10]; · isplitl [H00] <;> iassumption
  isplitl [H01 H11]; · isplitl [H01] <;> iassumption
  isplitl [H02] <;> iassumption
theorem close_xr : iprop(hasAny c (XR 0 0) ∗ hasAny c (XR 0 1) ∗ hasAny c (XR 0 2) ∗ hasAny c (XR 1 0) ∗ hasAny c (XR 1 1) ∗ hasAny c (XR 1 2))
    ⊢ buf (F := F) c cc0_scratch4 := by
  rw [← bigSep_six (fun t => hasAny c (XR t.1 t.2))]
  exact join_slots c cc0_scratch4 (fun t : Fin 2 × Fin 3 => rY t.1 t.2) (fun _ _ => rfl) (fun _ => squeezes_S1x1x512x1024_S512x1024) rY_disjoint rY_cover (0, 0)
omit [FloatOps F] in
theorem sm_eq : buf (F := F) c cc0_scratch3 = hasAny c SM := by
  unfold hasAny has
  simp only [owns_whole (c : Thread nD τ) cc0_scratch3 fullShare]
  rfl

/-! ## The result -/

variable (x : Dev nD → S2048x2048.Idx → Elt F .f32) (dy : Dev nD → S2048x8192.Idx → Elt F .f32)

/-- Where column `n` lies within its block. -/
def colOf (n : ℕ) : Fin 1024 := ⟨n % 1024, Nat.mod_lt _ (by decide)⟩

/-- What device `c`'s result holds. -/
def OUT (i : S512x8192.Idx) : Elt F .f32 :=
  OV x dy c (qOf c ((i 1).val / 2048)) (halfOf (i 1).val) (show S512x1024.Idx from Fin.cons (i 0) (Fin.cons (colOf (i 1).val) finZeroElim))

theorem OUT_emb (q : Fin 4) (s : Fin 2) (j : S512x1024.Idx) : OUT c x dy ((rO c q s).emb j) = OV x dy c q s j := by
  have hj : (j 1).val < 1024 := (j 1).isLt
  have hs := s.isLt
  have h1 : ((rO c q s).emb j 1).val = 2048 * quarter (srcDev c q) + 1024 * s.val + (j 1).val := by
    rw [Rect.emb_apply]
    show outOff c q s 1 + 1 * (j 1).val = _
    rw [outOff_eq, Nat.one_mul]; rfl
  have h0 : ((rO c q s).emb j 0) = j 0 := by
    apply Fin.ext
    rw [Rect.emb_apply]
    show outOff c q s 0 + 1 * (j 0).val = _
    rw [outOff_eq, Nat.one_mul]; exact Nat.zero_add _
  have hQ : ((rO c q s).emb j 1).val / 2048 = quarter (srcDev c q) := by rw [h1]; omega
  have hH : halfOf ((rO c q s).emb j 1).val = s := by
    apply Fin.ext
    show ((rO c q s).emb j 1).val % 2048 / 1024 = s.val
    rw [h1]; omega
  have hC : colOf ((rO c q s).emb j 1).val = j 1 := by
    apply Fin.ext
    show ((rO c q s).emb j 1).val % 1024 = (j 1).val
    rw [h1]; omega
  unfold OUT
  rw [hQ, qOf_quarter, hH, hC]
  refine congrArg (OV x dy c q s) ?_
  funext a
  fin_cases a
  · exact h0
  · rfl

theorem open_out (f : Buf (Elt F) ((c : Thread nD τ).loc main_v1)) :
    ((c : Thread nD τ).loc main_v1 ↦{fullShare} f : sProp 𝕄)
      ⊢ iprop(hasAny c (OUTS c 0 0) ∗ hasAny c (OUTS c 1 0) ∗ hasAny c (OUTS c 2 0) ∗ hasAny c (OUTS c 3 0)
        ∗ hasAny c (OUTS c 0 1) ∗ hasAny c (OUTS c 1 1) ∗ hasAny c (OUTS c 2 1) ∗ hasAny c (OUTS c 3 1)) := by
  rw [← bigSep_eight (fun t => hasAny c (OUTS c t.1 t.2)), ← owns_whole (c : Thread nD τ) main_v1 fullShare f]
  have h := owns_rects (Ix := Unit) (Name := ℕ) (U := UU) (Lvl := ℕ) (c : Thread nD τ) OM fullShare (fun t : Fin 4 × Fin 2 => rO c t.1 t.2) (fun _ _ => rfl) (rO_disjoint c) (by
    ext i; simp only [Finset.mem_biUnion, Finset.mem_univ, true_and, iff_true]; exact rO_cover c i) f
  refine h.trans (bigSep_mono fun t _ => ?_)
  exact has_any c (OUTS c t.1 t.2) _

theorem close_out :
    iprop(has c (OUTS c 0 0) (OV x dy c 0 0) ∗ has c (OUTS c 1 0) (OV x dy c 1 0) ∗ has c (OUTS c 2 0) (OV x dy c 2 0) ∗ has c (OUTS c 3 0) (OV x dy c 3 0)
        ∗ has c (OUTS c 0 1) (OV x dy c 0 1) ∗ has c (OUTS c 1 1) (OV x dy c 1 1) ∗ has c (OUTS c 2 1) (OV x dy c 2 1) ∗ has c (OUTS c 3 1) (OV x dy c 3 1))
      ⊢ ((c : Thread nD τ).loc main_v1 ↦{fullShare} (OUT c x dy : Buf (Elt F) ((c : Thread nD τ).loc main_v1)) : sProp 𝕄) := by
  rw [← bigSep_eight (fun t => has c (OUTS c t.1 t.2) (OV x dy c t.1 t.2)), ← owns_whole (c : Thread nD τ) main_v1 fullShare (OUT c x dy)]
  have h := owns_of_rects (Ix := Unit) (Name := ℕ) (U := UU) (Lvl := ℕ) (c : Thread nD τ) OM fullShare (fun t : Fin 4 × Fin 2 => rO c t.1 t.2) (fun _ _ => rfl) (rO_disjoint c) (by
    ext i; simp only [Finset.mem_biUnion, Finset.mem_univ, true_and, iff_true]; exact rO_cover c i) (OUT c x dy)
  have he : (bigSep Finset.univ fun t : Fin 4 × Fin 2 => has c (OUTS c t.1 t.2) (OV x dy c t.1 t.2) : sProp 𝕄)
      = bigSep Finset.univ fun t : Fin 4 × Fin 2 => has c (OUTS c t.1 t.2) (fun j => OUT c x dy ((rO c t.1 t.2).emb j)) := bigSep_congr fun t _ =>
    congrArg (fun X => has c (OUTS c t.1 t.2) X) (funext fun j => (OUT_emb c x dy t.1 t.2 j).symm)
  rw [he]; exact h

/-! ## The second operand -/

/-- What no copy in holds of `dy`'s block. -/
def dyRest (s : Fin 2) : sProp 𝕄 := (c : Thread nD τ).loc main_arg1 ↦[Finset.univ \ (DSRC c s).view.set]{dsh s} dy c

theorem dy_eq (f : Buf (Elt F) ((c : Thread nD τ).loc main_arg1)) (hf : f = dy c) :
    ((c : Thread nD τ).loc main_arg1 ↦{fullShare} f : sProp 𝕄)
      = iprop((dySrc dy c 0 ∗ dyRest c dy 0) ∗ dySrc dy c 1 ∗ dyRest c dy 1) := by
  subst hf
  have hs : ∀ s : Fin 2, iprop(dySrc dy c s ∗ dyRest c dy s) = ((c : Thread nD τ).loc main_arg1 ↦{dsh s} dy c : sProp 𝕄) := fun s =>

    have h := pointsTo_split_subset (Ix := Unit) (Name := ℕ) (U := UU) (Lvl := ℕ) (ℓ := (c : Thread nD τ).loc main_arg1) (q := dsh s) (f := dy c) (Finset.subset_univ (DSRC c s).view.set)
    BI.Entails.antisymm h.2 h.1
  rw [hs 0, hs 1]
  have h := pointsTo_share (Ix := Unit) (Name := ℕ) (U := UU) (Lvl := ℕ) (ℓ := (c : Thread nD τ).loc main_arg1) (I := Finset.univ) (f := dy c) (PosShare.mem_left_op_right fullShare)
  exact BI.Entails.antisymm h.1 h.2

end Bufs

end Cert.Wgrad

end
-- ==== Proof.Deal.lean ====
/-
What the launch deals each device: positions, rights to pay, units to wait for.
-/
module

public import proofs.«01_k».proof.Proof.Steps

@[expose] public section

noncomputable section

namespace Cert.Wgrad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores and the duties -/

theorem kcell_injective : Function.Injective (fun ck : Dev nD × CK => kcell ck.1 ck.2) := by
  rintro ⟨c, k⟩ ⟨c', k'⟩ h
  have h1 : c = c' := congrArg (fun g : GSem nD τ sig => g.1.1) h
  subst h1
  have h2 : k = k' := csem_injective (congrArg Prod.snd h)
  subst h2; rfl

def cells : Finset (GSem nD τ sig) := Finset.univ.map ⟨fun ck : Dev nD × CK => kcell ck.1 ck.2, kcell_injective⟩

/-- Every duty of a device's own semaphores: the semaphore, the round, the duty's name. -/
def tks : List (CK × ℕ × Fin 5) :=
  [(.bar, 0, 0), (.bar, 0, 1), (.bar, 0, 2), (.bar, 0, 3), (.bar, 0, 4),
    (.dy 0, 0, 0), (.out 0, 0, 0), (.out 0, 1, 0), (.out 0, 2, 0), (.out 0, 3, 0), (.ys 0, 0, 0), (.ys 0, 1, 0), (.ys 0, 2, 0),
    (.yr 0 0, 0, 0), (.xs 0 0, 0, 0), (.xr 0 0, 0, 0), (.yr 0 1, 0, 0), (.xs 0 1, 0, 0), (.xr 0 1, 0, 0), (.yr 0 2, 0, 0), (.xs 0 2, 0, 0), (.xr 0 2, 0, 0),
    (.dy 1, 0, 0), (.out 1, 0, 0), (.out 1, 1, 0), (.out 1, 2, 0), (.out 1, 3, 0), (.ys 1, 0, 0), (.ys 1, 1, 0), (.ys 1, 2, 0),
    (.yr 1 0, 0, 0), (.xs 1 0, 0, 0), (.xr 1 0, 0, 0), (.yr 1 1, 0, 0), (.xs 1 1, 0, 0), (.xr 1 1, 0, 0), (.yr 1 2, 0, 0), (.xs 1 2, 0, 0), (.xr 1 2, 0, 0)]
def tk (i : Fin 39) : CK × ℕ × Fin 5 := tks.get i

set_option maxRecDepth 100000 in
theorem tk_injective : Function.Injective tk := by
  have h : ∀ a b : Fin 39, tk a = tk b → a = b := by decide +kernel
  exact fun a b => h a b

/-- The device whose semaphore device `c` pays this duty of. -/
def tgt (t : CK × ℕ × Fin 5) (c : Dev nD) : Dev nD := match t with
  | (.bar, _, 0) => lft c
  | (.bar, _, 1) => rgt c
  | (.bar, _, 2) => prt 0 c
  | (.bar, _, 3) => prt 1 c
  | (.bar, _, 4) => prt 2 c
  | (.yr _ _, _, _) => rgt c
  | (.xr _ j, _, _) => prt j c
  | (.dy _, _, _) => c
  | (.out _, _, _) => c
  | (.ys _, _, _) => c
  | (.xs _ _, _, _) => c

theorem lft_inj : Function.Injective lft := Function.LeftInverse.injective rgt_lft
theorem rgt_inj : Function.Injective rgt := Function.LeftInverse.injective lft_rgt
theorem prt_inj (j : Fin 3) : Function.Injective (prt j) := Function.LeftInverse.injective (prt_prt j)

theorem tgt_inj (t : CK × ℕ × Fin 5) : Function.Injective (tgt t) := by
  obtain ⟨k, r, d⟩ := t
  cases k with
  | bar => fin_cases d <;> first | exact lft_inj | exact rgt_inj | exact prt_inj _
  | yr s h => exact rgt_inj
  | xr s j => exact prt_inj j
  | dy s => exact fun _ _ h => h
  | out s => exact fun _ _ h => h
  | ys s => exact fun _ _ h => h
  | xs s j => exact fun _ _ h => h

def tgtE (t : CK × ℕ × Fin 5) : Dev nD ≃ Dev nD := Equiv.ofBijective (tgt t) (Finite.injective_iff_bijective.mp (tgt_inj t))

abbrev tokOf (ci : Dev nD × Fin 39) : GSem nD τ sig × ℕ × Fin 5 := (kcell ci.1 (tk ci.2).1, (tk ci.2).2.1, (tk ci.2).2.2)
theorem tokOf_injective : Function.Injective tokOf := by
  rintro ⟨c, i⟩ ⟨c', i'⟩ h
  have h1 : ((c, (tk i).1) : Dev nD × CK) = (c', (tk i').1) := kcell_injective (congrArg Prod.fst h)
  have h2 : (tk i).2 = (tk i').2 := congrArg (fun x : GSem nD τ sig × ℕ × Fin 5 => x.2) h
  have h3 : c = c' := congrArg Prod.fst h1
  subst h3
  have h4 : tk i = tk i' := Prod.ext (congrArg Prod.snd h1) h2
  rw [tk_injective h4]
def toksAll : Finset (GSem nD τ sig × ℕ × Fin 5) := Finset.univ.map ⟨tokOf, tokOf_injective⟩

def u₀ : UU := (initOf (Pipeline.cells cfgs cellOf_inj) (Pipeline.launchToks cfgs cellOf_inj), initOf cells toksAll)

/-! ## The kernel's own semaphores -/

/-- All but the runtime's barrier. -/
def okey (i : Fin 24) : CK := cks.tail.get i
def osem (i : Fin 24) : SemLoc sig := csem (okey i)

set_option maxRecDepth 100000 in
theorem ownSemFacts : Pipeline.OwnSemFacts cfg0.spec osem := by decide +kernel

section Deal

variable (x : Dev nD → S2048x2048.Idx → Elt F .f32) (dy : Dev nD → S2048x8192.Idx → Elt F .f32)

omit [FloatOps F] in
theorem bigSep_ck (Φ : CK → sProp 𝕄) : bigSep Finset.univ Φ = bigSepL cks Φ := bigSep_univ_eq_bigSepL cks rfl (by decide) Φ
omit [FloatOps F] in
theorem bigSep_own (Φ : CK → sProp 𝕄) :
    bigSep Finset.univ Φ = iprop(Φ .bar ∗ bigSep Finset.univ fun i : Fin 24 => Φ (okey i)) := by
  rw [bigSep_ck, bigSep_univ_eq_bigSepL (List.finRange 24) (by decide) (by decide)]
  rfl

omit [FloatOps F] in
theorem unscopedSems0_eq (c : Dev nD) : (unscopedSems0 c : sProp 𝕄) = semVal (kcell c .bar) 0 := by
  unfold unscopedSems0; rw [bigSep_eq_bigSepL_of_eq [SemLoc.reg barS] (by decide +kernel) (by decide)]; rfl

omit [FloatOps F] in
theorem sems_eq (c : Dev nD) :
    (bigSep Finset.univ fun k : CK => semVal (kcell c k) 0 : sProp 𝕄)
      = iprop(unscopedSems0 c ∗ Pipeline.ownSems0 (Ix := Unit) (Name := ℕ) (U := UU) (Lvl := ℕ) (Val := Elt F) (τ := τ) osem c) := by
  rw [bigSep_own, unscopedSems0_eq]; rfl

/-! ## The launch's shares -/

/-- The duty tokens of device `c`'s own semaphores; -/
def toks (c : Dev nD) : sProp 𝕄 := bigSep Finset.univ fun i : Fin 39 => TOK c (tk i).1 (tk i).2.1 (tk i).2.2
/-- of the duties it pays. -/
def payToks (c : Dev nD) : sProp 𝕄 := bigSep Finset.univ fun i : Fin 39 => TOK (tgt (tk i) c) (tk i).1 (tk i).2.1 (tk i).2.2

omit [FloatOps F] in
theorem swap_univ {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun ab : A × B => Φ ab.1 ab.2), ← bigSep_univ_prod (fun ba : B × A => Φ ba.2 ba.1)]
  exact bigSep_univ_equiv (Equiv.prodComm B A) (fun ab : A × B => Φ ab.1 ab.2)

omit [FloatOps F] in
theorem toks_around : (bigSep Finset.univ fun c : Dev nD => (toks c : sProp 𝕄)) = bigSep Finset.univ fun c : Dev nD => payToks c := by
  unfold toks payToks
  rw [swap_univ, swap_univ (fun (c : Dev nD) (i : Fin 39) => (TOK (tgt (tk i) c) (tk i).1 (tk i).2.1 (tk i).2.2 : sProp 𝕄))]
  exact bigSep_congr fun i _ => bigSep_univ_equiv (tgtE (tk i)) (fun c : Dev nD => (TOK c (tk i).1 (tk i).2.1 (tk i).2.2 : sProp 𝕄))

/-- What the launch deals device `c`. -/
def G (c : Dev nD) : sProp 𝕄 :=
  iprop((bigSep Finset.univ fun k : CK => roundState ER (Rd x dy) (kcell c k) 0)
    ∗ (bigSep Finset.univ fun k : CK => iprop(atPos ER (kcell c k) 0 ∅ 0 ∗ reached ER (kcell c k) 0)) ∗ toks c)

def records (K : Dev nD × CK → ℕ) : sProp 𝕄 :=
  iprop((bigSep Finset.univ fun ck : Dev nD × CK => cellInv ER (Rd x dy) (K ck) (kcell ck.1 ck.2))
    ∗ bigSep Finset.univ fun ck : Dev nD × CK => reached ER (kcell ck.1 ck.2) 0)

instance records_persistent (K : Dev nD × CK → ℕ) : BI.Persistent (records x dy K) := by unfold records; infer_instance

/-- What the global step makes of it. -/
def G' (c : Dev nD) : sProp 𝕄 := iprop(∃ K, records x dy K ∗ (bigSep Finset.univ fun k : CK => AT c k 0) ∗ payToks c)

theorem fund_cells : BI.own (ER (initOf cells toksAll)) ⊢ (|==> bigSep Finset.univ (G x dy) : sProp 𝕄) := by
  have hX (Φ : GSem nD τ sig → sProp 𝕄) : bigSep cells Φ = bigSep Finset.univ fun c : Dev nD => bigSep Finset.univ fun k : CK => Φ (kcell c k) := by
    unfold cells; rw [bigSep_map, bigSep_univ_prod]; rfl
  have hT : bigSep toksAll (fun x => (dutyTok ER x.1 x.2.1 x.2.2 : sProp 𝕄)) = bigSep Finset.univ fun c : Dev nD => toks c := by
    unfold toksAll; rw [bigSep_map, bigSep_univ_prod]; rfl
  iintro HX
  imod (Rounds.fund ER (Rd x dy) cells toksAll) $$ HX with ⟨Hst, Hr, Hat, Htok⟩
  imodintro
  ihave Hst' := (Entails.of_eq (hX fun g => roundState ER (Rd x dy) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G x dy c)
      ⊢ |={Set.univ}=> iprop((bigSep Finset.univ fun k : CK => iprop(∃ κ : ℕ, cellInv ER (Rd x dy) κ (kcell c k)))
          ∗ (bigSep Finset.univ fun k : CK => iprop(atPos ER (kcell c k) 0 ∅ 0 ∗ reached ER (kcell c k) 0)) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : CK => semVal (kcell c k) 0) ∗ bigSep Finset.univ fun k : CK => roundState ER (Rd x dy) (kcell c k) 0)
      ⊢ (|={Set.univ}=> bigSep Finset.univ fun k => iprop(∃ κ : ℕ, cellInv ER (Rd x dy) κ (kcell c k)) : sProp 𝕄) from by
        rw [← bigSep_sep']
        exact (bigSep_mono fun k _ => (Rounds.body_intro ER (Rd x dy) (kcell c k)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_persistently {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem at_intro (K : Dev nD × CK → ℕ) (c : Dev nD) (k : CK) : iprop(records x dy K ∗ atPos ER (kcell c k) 0 ∅ 0) ⊢ AT c k 0 := by
  have h : (bigSep Finset.univ fun ck : Dev nD × CK => (reached ER (kcell ck.1 ck.2) 0 : sProp 𝕄)) ⊢ reached ER (kcell c k) 0 :=
    bigSep_elim (Finset.mem_univ (c, k))
  unfold records AT
  iintro ⟨⟨-, HR⟩, Ha⟩
  isplitl [Ha]; · iexact Ha
  iapply h $$ HR

theorem ghost_intro (K : Dev nD × CK → ℕ) (c : Dev nD) :
    iprop(records x dy K ∗ (bigSep Finset.univ fun k : CK => atPos ER (kcell c k) 0 ∅ 0) ∗ payToks c) ⊢ G' x dy c := by
  have h : iprop(records x dy K ∗ bigSep Finset.univ fun k : CK => atPos ER (kcell c k) 0 ∅ 0) ⊢ (bigSep Finset.univ fun k : CK => AT c k 0 : sProp 𝕄) :=
    bigSep_persistently fun k _ => at_intro x dy K c k
  unfold G'
  iintro ⟨#HR, Ha, Ht⟩
  iexists K
  isplitr; · iexact HR
  isplitl [Ha]
  · iapply h
    isplitr; · iexact HR
    iexact Ha
  iexact Ht

theorem regroup :
    (bigSep Finset.univ fun c : Dev nD => iprop((bigSep Finset.univ fun k : CK => iprop(∃ κ : ℕ, cellInv ER (Rd x dy) κ (kcell c k)))
          ∗ (bigSep Finset.univ fun k : CK => iprop(atPos ER (kcell c k) 0 ∅ 0 ∗ reached ER (kcell c k) 0)) ∗ toks c) : sProp 𝕄)
      ⊢ bigSep Finset.univ (G' x dy) := by
  rw [bigSep_sep', bigSep_sep', ← bigSep_univ_prod (fun ck : Dev nD × CK => iprop(∃ κ : ℕ, cellInv ER (Rd x dy) κ (kcell ck.1 ck.2))),
    bigSep_congr (s := Finset.univ) (fun (c : Dev nD) _ => bigSep_sep' Finset.univ (fun k : CK => (atPos ER (kcell c k) 0 ∅ 0 : sProp 𝕄)) (fun k => reached ER (kcell c k) 0)),
    bigSep_sep', ← bigSep_univ_prod (fun ck : Dev nD × CK => (reached ER (kcell ck.1 ck.2) 0 : sProp 𝕄)), toks_around]
  iintro ⟨HI, ⟨Hat, #HR⟩, Htok⟩
  ihave HK := (BI.bigSep_exists_pi Finset.univ (fun (ck : Dev nD × CK) (κ : ℕ) => (cellInv ER (Rd x dy) κ (kcell ck.1 ck.2) : sProp 𝕄))) $$ HI
  icases HK with ⟨%K, #HI⟩
  have h : iprop(records x dy K ∗ bigSep Finset.univ fun c : Dev nD => iprop((bigSep Finset.univ fun k : CK => atPos ER (kcell c k) 0 ∅ 0) ∗ payToks c))
      ⊢ (bigSep Finset.univ (G' x dy) : sProp 𝕄) := bigSep_persistently fun c _ => ghost_intro x dy K c
  iapply h
  rw [bigSep_sep']
  isplitr
  · unfold records; isplitl; · iexact HI
    iexact HR
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G x dy c) : sProp 𝕄)
    ⊢ |={Set.univ}=> bigSep Finset.univ (G' x dy) :=
  ((bigSep_mono fun c _ => core_alloc x dy c).trans (bigSep_fupd _ _)).trans (BI.fupd_mono (regroup x dy))

end Deal

/-! ## The units to wait for -/

theorem tallies_kcell (l : List (Dev nD × CK)) (c : Dev nD) (k : CK) : tallies l (kcell c k) () = l.count (c, k) * amt k := by
  induction l with
  | nil => rw [List.count_nil, Nat.zero_mul]; rfl
  | cons e l ih =>
    unfold tallies
    rw [Pi.add_apply, Finsupp.add_apply, tallyAt_apply, ih, List.count_cons]
    by_cases h : e = (c, k)
    · subst h; rw [if_pos ⟨rfl, rfl⟩, if_pos (beq_self_eq_true _), Nat.add_mul, Nat.one_mul]
    · rw [if_neg (fun h' => h (kcell_injective h'.1).symm), if_neg (fun h' => h (eq_of_beq h')), Nat.add_zero, Nat.add_zero]

/-- How many duties the other devices pay a semaphore. -/
def paid : CK → ℕ
  | .bar => 5
  | .yr _ _ => 1
  | .xr _ _ => 1
  | _ => 0

/-- The duties a device pays other devices, in the order it pays them. -/
def dls : List (CK × ℕ × Fin 5) :=
  [(.bar, 0, 0), (.bar, 0, 1), (.bar, 0, 2), (.bar, 0, 3), (.bar, 0, 4),
    (.yr 0 0, 0, 0), (.yr 1 0, 0, 0), (.yr 0 1, 0, 0), (.yr 1 1, 0, 0), (.yr 0 2, 0, 0), (.yr 1 2, 0, 0),
    (.xr 0 0, 0, 0), (.xr 0 1, 0, 0), (.xr 0 2, 0, 0), (.xr 1 0, 0, 0), (.xr 1 1, 0, 0), (.xr 1 2, 0, 0)]

theorem debts_eq (d : Dev nD) : debts d = dls.map fun t => (tgt t d, t.1) := rfl

theorem count_map (l : List (CK × ℕ × Fin 5)) (c : Dev nD) (k : CK) :
    (∑ d : Dev nD, (l.map fun t => (tgt t d, t.1)).count (c, k)) = l.countP fun t => decide (t.1 = k) := by
  induction l with
  | nil => simp
  | cons t l ih =>
    have e : (∑ d : Dev nD, if ((tgt t d, t.1) == (c, k)) = true then 1 else 0) = if decide (t.1 = k) = true then 1 else 0 := by
      by_cases h : t.1 = k
      · obtain ⟨d₀, h₀⟩ := (Finite.injective_iff_surjective.mp (tgt_inj t)) c
        rw [if_pos (decide_eq_true h)]
        refine (Finset.sum_eq_single d₀ (fun d _ hd => if_neg fun hb => hd (tgt_inj t ?_)) (fun h => absurd (Finset.mem_univ _) h)).trans (if_pos ?_)
        · rw [h₀]; exact congrArg Prod.fst (eq_of_beq hb)
        · rw [h₀, h]; exact beq_self_eq_true _
      · rw [if_neg (fun h' => h (of_decide_eq_true h'))]
        exact Finset.sum_eq_zero fun d _ => if_neg fun hb => h (congrArg Prod.snd (eq_of_beq hb))
    rw [List.countP_cons, ← ih, ← e, ← Finset.sum_add_distrib]
    exact Finset.sum_congr rfl fun d _ => by rw [List.map_cons, List.count_cons]

theorem count_debts (c : Dev nD) (k : CK) : (∑ d : Dev nD, (debts d).count (c, k)) = paid k := by
  have h : ∀ k ∈ cks, (dls.countP fun t => decide (t.1 = k)) = paid k := by decide +kernel
  rw [Finset.sum_congr rfl fun d _ => congrArg (List.count (c, k)) (debts_eq d), count_map]
  exact h k (mem_cks k)

abbrev O₀ (c : Dev nD) : CellTallies nD τ sig Unit := OB c 0

theorem launch_at (c : Dev nD) (k : CK) :
    tallyOn (kcell c k) (launchCredit (Pipeline.owing O₀) 0 (kcell c k)) = (tallyAt (kcell c k) () (paid k * amt k) : CellTallies nD τ sig Unit) := by
  unfold tallyAt; refine congrArg _ (Finsupp.ext fun u => ?_); cases u
  rw [Pipeline.launchCredit_owing, Finsupp.single_eq_same, Finset.sum_congr rfl fun d _ => show (O₀ d (kcell c k)) PUnit.unit = (debts d).count (c, k) * amt k from tallies_kcell (debts d) c k, ← Finset.sum_mul, count_debts]

omit [FloatOps F] in
theorem creds (c : Dev nD) :
    (Pipeline.launchCred O₀ c : sProp 𝕄) ⊢ bigSep Finset.univ fun k : CK => cred (tallyAt (kcell c k) () (paid k * amt k)) := by
  unfold Pipeline.launchCred
  have h : (bigSep (Finset.univ.map ⟨csem, csem_injective⟩) fun sm : SemLoc sig => (cred (tallyOn ((c : Thread nD τ), sm) (launchCredit (Pipeline.owing O₀) 0 ((c : Thread nD τ), sm))) : sProp 𝕄))
      = bigSep Finset.univ fun k : CK => cred (tallyAt (kcell c k) () (paid k * amt k)) := by
    rw [bigSep_map]
    exact bigSep_congr fun k _ => congrArg (fun t => (cred t : sProp 𝕄)) (launch_at c k)
  rw [← h]
  exact BI.bigSep_subset (Finset.subset_univ _)

end Cert.Wgrad

end
-- ==== Proof.Entry.lean ====
/-
A device's run, from whole buffers to whole buffers.
-/
module

public import proofs.«01_k».proof.Proof.Ops
public import proofs.«01_k».proof.Proof.Slots
public import proofs.«01_k».proof.Proof.Deal

@[expose] public section

noncomputable section

namespace Cert.Wgrad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → S2048x2048.Idx → Elt F .f32) (dy : Dev nD → S2048x8192.Idx → Elt F .f32)

omit [FloatOps F] in
theorem ck_chain (Φ : CK → sProp 𝕄) :
    bigSep Finset.univ Φ = iprop(Φ .bar ∗ Φ (.dy 0) ∗ Φ (.dy 1) ∗ Φ (.out 0) ∗ Φ (.out 1) ∗ Φ (.ys 0) ∗ Φ (.ys 1) ∗ Φ (.yr 0 0) ∗ Φ (.yr 0 1) ∗ Φ (.yr 0 2) ∗ Φ (.yr 1 0) ∗ Φ (.yr 1 1)
        ∗ Φ (.yr 1 2) ∗ Φ (.xs 0 0) ∗ Φ (.xs 0 1) ∗ Φ (.xs 0 2) ∗ Φ (.xs 1 0) ∗ Φ (.xs 1 1) ∗ Φ (.xs 1 2) ∗ Φ (.xr 0 0) ∗ Φ (.xr 0 1) ∗ Φ (.xr 0 2) ∗ Φ (.xr 1
        0) ∗ Φ (.xr 1 1) ∗ Φ (.xr 1 2)) := (bigSep_ck Φ).trans rfl

omit [FloatOps F] in
theorem payToks_chain (c : Dev nD) :
    (payToks c : sProp 𝕄) = iprop(TOK (lft c) .bar 0 0 ∗ TOK (rgt c) .bar 0 1 ∗ TOK (prt 0 c) .bar 0 2 ∗ TOK (prt 1 c) .bar 0 3 ∗ TOK (prt 2 c) .bar 0 4 ∗ TOK c (.dy 0) 0 0 ∗ TOK c
        (.out 0) 0 0 ∗ TOK c (.out 0) 1 0 ∗ TOK c (.out 0) 2 0 ∗ TOK c (.out 0) 3 0 ∗ TOK c (.ys 0) 0 0 ∗ TOK c (.ys 0) 1 0 ∗ TOK c (.ys 0) 2 0 ∗ TOK (rgt c)
        (.yr 0 0) 0 0 ∗ TOK c (.xs 0 0) 0 0 ∗ TOK (prt 0 c) (.xr 0 0) 0 0 ∗ TOK (rgt c) (.yr 0 1) 0 0 ∗ TOK c (.xs 0 1) 0 0 ∗ TOK (prt 1 c) (.xr 0 1) 0 0 ∗
        TOK (rgt c) (.yr 0 2) 0 0 ∗ TOK c (.xs 0 2) 0 0 ∗ TOK (prt 2 c) (.xr 0 2) 0 0 ∗ TOK c (.dy 1) 0 0 ∗ TOK c (.out 1) 0 0 ∗ TOK c (.out 1) 1 0 ∗ TOK c
        (.out 1) 2 0 ∗ TOK c (.out 1) 3 0 ∗ TOK c (.ys 1) 0 0 ∗ TOK c (.ys 1) 1 0 ∗ TOK c (.ys 1) 2 0 ∗ TOK (rgt c) (.yr 1 0) 0 0 ∗ TOK c (.xs 1 0) 0 0 ∗ TOK
        (prt 0 c) (.xr 1 0) 0 0 ∗ TOK (rgt c) (.yr 1 1) 0 0 ∗ TOK c (.xs 1 1) 0 0 ∗ TOK (prt 1 c) (.xr 1 1) 0 0 ∗ TOK (rgt c) (.yr 1 2) 0 0 ∗ TOK c (.xs 1 2)
        0 0 ∗ TOK (prt 2 c) (.xr 1 2) 0 0) := by
  unfold payToks
  rw [bigSep_univ_eq_bigSepL (List.finRange 39) (by decide) (by decide)]
  rfl

/-- The units a device waits for. -/
def crk (c : Dev nD) : CK → sProp 𝕄
  | .bar => cred (tallyAt (kcell c .bar) () 5)
  | .yr s h => CR c (.yr s h)
  | .xr s h => CR c (.xr s h)
  | _ => iprop(emp)

theorem crk_of (c : Dev nD) (k : CK) : (cred (tallyAt (kcell c k) () (paid k * amt k)) : sProp 𝕄) ⊢ crk c k := by
  cases k with
  | bar => unfold crk paid amt; rw [Nat.mul_one]
  | yr s h => unfold crk CR paid; rw [Nat.one_mul]
  | xr s h => unfold crk CR paid; rw [Nat.one_mul]
  | dy s => unfold crk; iintro -; iempintro
  | out s => unfold crk; iintro -; iempintro
  | ys s => unfold crk; iintro -; iempintro
  | xs s h => unfold crk; iintro -; iempintro

theorem crks (c : Dev nD) : (bigSep Finset.univ fun k : CK => cred (tallyAt (kcell c k) () (paid k * amt k)) : sProp 𝕄) ⊢ bigSep Finset.univ (crk c) :=
  bigSep_mono fun k _ => crk_of c k

theorem crk_chain (c : Dev nD) :
    (bigSep Finset.univ (crk c) : sProp 𝕄) = iprop(cred (tallyAt (kcell c .bar) () 5) ∗ emp ∗ emp ∗ emp ∗ emp ∗ emp ∗ emp ∗ CR c (.yr 0 0) ∗ CR c (.yr 0 1) ∗ CR c (.yr 0 2) ∗ CR c (.yr 1 0) ∗ CR c (.yr
        1 1) ∗ CR c (.yr 1 2) ∗ emp ∗ emp ∗ emp ∗ emp ∗ emp ∗ emp ∗ CR c (.xr 0 0) ∗ CR c (.xr 0 1) ∗ CR c (.xr 0 2) ∗ CR c (.xr 1 0) ∗ CR c (.xr 1 1) ∗ CR c
        (.xr 1 2)) := (bigSep_ck _).trans rfl

/-- What a device's run starts from, part by part. -/
theorem entry (c : Dev nD) (f : Buf (Elt F) ((c : Thread nD τ).loc main_arg1)) (hf : f = dy c) :
    iprop((bigSep Finset.univ fun k : CK => AT c k 0) ∗ payToks c ∗ (bigSep Finset.univ fun k : CK => cred (tallyAt (kcell c k) () (paid k * amt k)))
        ∗ ((c : Thread nD τ).loc main_arg1 ↦{fullShare} f) ∗ buf c main_v1
        ∗ (buf c cc0_scratch0 ∗ buf c cc0_scratch1 ∗ buf c cc0_scratch2 ∗ buf c cc0_scratch3 ∗ buf c cc0_scratch4 ∗ buf c cc0_scratch5)
        ∗ OWE c 0 ∗ has c XM (x c))
      ⊢ iprop((OWE c 0 ∗ has c XM (x c) ∗ cred (tallyAt (kcell c .bar) () 5) ∗ AT c .bar 0 ∗ TOK (lft c) .bar 0 0 ∗ TOK (rgt c) .bar 0 1 ∗ TOK (prt 0 c) .bar 0 2 ∗
            TOK (prt 1 c) .bar 0 3 ∗ TOK (prt 2 c) .bar 0 4 ∗ AT c (.dy 0) 0 ∗ TOK c (.dy 0) 0 0 ∗ AT c (.out 0) 0 ∗ TOK c (.out 0) 0 0 ∗ TOK c (.out 0) 1 0 ∗ TOK
            c (.out 0) 2 0 ∗ TOK c (.out 0) 3 0 ∗ AT c (.ys 0) 0 ∗ TOK c (.ys 0) 0 0 ∗ TOK c (.ys 0) 1 0 ∗ TOK c (.ys 0) 2 0 ∗ AT c (.yr 0 0) 0 ∗ TOK (rgt c) (.yr
            0 0) 0 0 ∗ CR c (.yr 0 0) ∗ AT c (.xs 0 0) 0 ∗ TOK c (.xs 0 0) 0 0 ∗ AT c (.xr 0 0) 0 ∗ TOK (prt 0 c) (.xr 0 0) 0 0 ∗ CR c (.xr 0 0) ∗ AT c (.yr 0 1)
            0 ∗ TOK (rgt c) (.yr 0 1) 0 0 ∗ CR c (.yr 0 1) ∗ AT c (.xs 0 1) 0 ∗ TOK c (.xs 0 1) 0 0 ∗ AT c (.xr 0 1) 0 ∗ TOK (prt 1 c) (.xr 0 1) 0 0 ∗ CR c (.xr 0
            1) ∗ AT c (.yr 0 2) 0 ∗ TOK (rgt c) (.yr 0 2) 0 0 ∗ CR c (.yr 0 2) ∗ AT c (.xs 0 2) 0 ∗ TOK c (.xs 0 2) 0 0 ∗ AT c (.xr 0 2) 0 ∗ TOK (prt 2 c) (.xr 0
            2) 0 0 ∗ CR c (.xr 0 2) ∗ dySrc dy c 0 ∗ hasAny c (DYS 0) ∗ hasAny c (STG 0) ∗ hasAny c (OST 0) ∗ hasAny c (OUTS c 0 0) ∗ hasAny c (OUTS c 1 0) ∗
            hasAny c (OUTS c 2 0) ∗ hasAny c (OUTS c 3 0) ∗ AT c (.dy 1) 0 ∗ TOK c (.dy 1) 0 0 ∗ AT c (.out 1) 0 ∗ TOK c (.out 1) 0 0 ∗ TOK c (.out 1) 1 0 ∗ TOK c
            (.out 1) 2 0 ∗ TOK c (.out 1) 3 0 ∗ AT c (.ys 1) 0 ∗ TOK c (.ys 1) 0 0 ∗ TOK c (.ys 1) 1 0 ∗ TOK c (.ys 1) 2 0 ∗ AT c (.yr 1 0) 0 ∗ TOK (rgt c) (.yr 1
            0) 0 0 ∗ CR c (.yr 1 0) ∗ AT c (.xs 1 0) 0 ∗ TOK c (.xs 1 0) 0 0 ∗ AT c (.xr 1 0) 0 ∗ TOK (prt 0 c) (.xr 1 0) 0 0 ∗ CR c (.xr 1 0) ∗ AT c (.yr 1 1) 0
            ∗ TOK (rgt c) (.yr 1 1) 0 0 ∗ CR c (.yr 1 1) ∗ AT c (.xs 1 1) 0 ∗ TOK c (.xs 1 1) 0 0 ∗ AT c (.xr 1 1) 0 ∗ TOK (prt 1 c) (.xr 1 1) 0 0 ∗ CR c (.xr 1
            1) ∗ AT c (.yr 1 2) 0 ∗ TOK (rgt c) (.yr 1 2) 0 0 ∗ CR c (.yr 1 2) ∗ AT c (.xs 1 2) 0 ∗ TOK c (.xs 1 2) 0 0 ∗ AT c (.xr 1 2) 0 ∗ TOK (prt 2 c) (.xr 1
            2) 0 0 ∗ CR c (.xr 1 2) ∗ dySrc dy c 1 ∗ hasAny c (DYS 1) ∗ hasAny c (STG 1) ∗ hasAny c (OST 1) ∗ hasAny c (OUTS c 0 1) ∗ hasAny c (OUTS c 1 1) ∗
            hasAny c (OUTS c 2 1) ∗ hasAny c (OUTS c 3 1) ∗ yslots c ∗ xslots 0 c ∗ xslots 1 c ∗ xslots 2 c ∗ hasAny c SM)
        ∗ dyRest c dy 0 ∗ dyRest c dy 1) := by
  iintro ⟨Hat, Htok, Hcr, Hdy, ⟨%fo, Hout⟩, ⟨B0, B1, B2, B3, B4, B5⟩, owe, xm⟩
  ihave Hat := (Entails.of_eq (ck_chain (F := F) fun k => AT c k 0)) $$ Hat
  icases Hat with ⟨at_bar, at_dy0, at_dy1, at_out0, at_out1, at_ys0, at_ys1, at_yr00, at_yr01, at_yr02, at_yr10, at_yr11, at_yr12, at_xs00, at_xs01, at_xs02, at_xs10,
      at_xs11, at_xs12, at_xr00, at_xr01, at_xr02, at_xr10, at_xr11, at_xr12⟩
  ihave Htok := (Entails.of_eq (payToks_chain (F := F) c)) $$ Htok
  icases Htok with ⟨t_bar0, t_bar1, t_bar2, t_bar3, t_bar4, t_dy0, t_out0_0, t_out0_1, t_out0_2, t_out0_3, t_ys0_0, t_ys0_1, t_ys0_2, t_yr00, t_xs00, t_xr00, t_yr01,
      t_xs01, t_xr01, t_yr02, t_xs02, t_xr02, t_dy1, t_out1_0, t_out1_1, t_out1_2, t_out1_3, t_ys1_0, t_ys1_1, t_ys1_2, t_yr10, t_xs10, t_xr10, t_yr11,
      t_xs11, t_xr11, t_yr12, t_xs12, t_xr12⟩
  ihave Hcr := (crks (F := F) c) $$ Hcr
  ihave Hcr := (Entails.of_eq (crk_chain (F := F) c)) $$ Hcr
  icases Hcr with ⟨pbar, -, -, -, -, -, -, cr_yr00, cr_yr01, cr_yr02, cr_yr10, cr_yr11, cr_yr12, -, -, -, -, -, -, cr_xr00, cr_xr01, cr_xr02, cr_xr10, cr_xr11, cr_xr12⟩
  ihave Hdy := (Entails.of_eq (dy_eq c dy f hf)) $$ Hdy
  icases Hdy with ⟨⟨dysrc0, R0⟩, dysrc1, R1⟩
  ihave Hout := (open_out c fo) $$ Hout
  icases Hout with ⟨o00, o10, o20, o30, o01, o11, o21, o31⟩
  ihave B0 := (open_dys c) $$ B0
  icases B0 with ⟨dys0, dys1⟩
  ihave B1 := (open_stg c) $$ B1
  icases B1 with ⟨stg0, stg1⟩
  ihave ysl := (open_yr c) $$ B2
  ihave sm := (Entails.of_eq (sm_eq (F := F) c)) $$ B3
  ihave B4 := (open_xr c) $$ B4
  icases B4 with ⟨xsl0, xsl1, xsl2⟩
  ihave B5 := (open_ost c) $$ B5
  icases B5 with ⟨ost0, ost1⟩
  isplitr [R0 R1]
  · isplitl [owe]; · iexact owe
    isplitl [xm]; · iexact xm
    isplitl [pbar]; · iexact pbar
    isplitl [at_bar]; · iexact at_bar
    isplitl [t_bar0]; · iexact t_bar0
    isplitl [t_bar1]; · iexact t_bar1
    isplitl [t_bar2]; · iexact t_bar2
    isplitl [t_bar3]; · iexact t_bar3
    isplitl [t_bar4]; · iexact t_bar4
    isplitl [at_dy0]; · iexact at_dy0
    isplitl [t_dy0]; · iexact t_dy0
    isplitl [at_out0]; · iexact at_out0
    isplitl [t_out0_0]; · iexact t_out0_0
    isplitl [t_out0_1]; · iexact t_out0_1
    isplitl [t_out0_2]; · iexact t_out0_2
    isplitl [t_out0_3]; · iexact t_out0_3
    isplitl [at_ys0]; · iexact at_ys0
    isplitl [t_ys0_0]; · iexact t_ys0_0
    isplitl [t_ys0_1]; · iexact t_ys0_1
    isplitl [t_ys0_2]; · iexact t_ys0_2
    isplitl [at_yr00]; · iexact at_yr00
    isplitl [t_yr00]; · iexact t_yr00
    isplitl [cr_yr00]; · iexact cr_yr00
    isplitl [at_xs00]; · iexact at_xs00
    isplitl [t_xs00]; · iexact t_xs00
    isplitl [at_xr00]; · iexact at_xr00
    isplitl [t_xr00]; · iexact t_xr00
    isplitl [cr_xr00]; · iexact cr_xr00
    isplitl [at_yr01]; · iexact at_yr01
    isplitl [t_yr01]; · iexact t_yr01
    isplitl [cr_yr01]; · iexact cr_yr01
    isplitl [at_xs01]; · iexact at_xs01
    isplitl [t_xs01]; · iexact t_xs01
    isplitl [at_xr01]; · iexact at_xr01
    isplitl [t_xr01]; · iexact t_xr01
    isplitl [cr_xr01]; · iexact cr_xr01
    isplitl [at_yr02]; · iexact at_yr02
    isplitl [t_yr02]; · iexact t_yr02
    isplitl [cr_yr02]; · iexact cr_yr02
    isplitl [at_xs02]; · iexact at_xs02
    isplitl [t_xs02]; · iexact t_xs02
    isplitl [at_xr02]; · iexact at_xr02
    isplitl [t_xr02]; · iexact t_xr02
    isplitl [cr_xr02]; · iexact cr_xr02
    isplitl [dysrc0]; · iexact dysrc0
    isplitl [dys0]; · iexact dys0
    isplitl [stg0]; · iexact stg0
    isplitl [ost0]; · iexact ost0
    isplitl [o00]; · iexact o00
    isplitl [o10]; · iexact o10
    isplitl [o20]; · iexact o20
    isplitl [o30]; · iexact o30
    isplitl [at_dy1]; · iexact at_dy1
    isplitl [t_dy1]; · iexact t_dy1
    isplitl [at_out1]; · iexact at_out1
    isplitl [t_out1_0]; · iexact t_out1_0
    isplitl [t_out1_1]; · iexact t_out1_1
    isplitl [t_out1_2]; · iexact t_out1_2
    isplitl [t_out1_3]; · iexact t_out1_3
    isplitl [at_ys1]; · iexact at_ys1
    isplitl [t_ys1_0]; · iexact t_ys1_0
    isplitl [t_ys1_1]; · iexact t_ys1_1
    isplitl [t_ys1_2]; · iexact t_ys1_2
    isplitl [at_yr10]; · iexact at_yr10
    isplitl [t_yr10]; · iexact t_yr10
    isplitl [cr_yr10]; · iexact cr_yr10
    isplitl [at_xs10]; · iexact at_xs10
    isplitl [t_xs10]; · iexact t_xs10
    isplitl [at_xr10]; · iexact at_xr10
    isplitl [t_xr10]; · iexact t_xr10
    isplitl [cr_xr10]; · iexact cr_xr10
    isplitl [at_yr11]; · iexact at_yr11
    isplitl [t_yr11]; · iexact t_yr11
    isplitl [cr_yr11]; · iexact cr_yr11
    isplitl [at_xs11]; · iexact at_xs11
    isplitl [t_xs11]; · iexact t_xs11
    isplitl [at_xr11]; · iexact at_xr11
    isplitl [t_xr11]; · iexact t_xr11
    isplitl [cr_xr11]; · iexact cr_xr11
    isplitl [at_yr12]; · iexact at_yr12
    isplitl [t_yr12]; · iexact t_yr12
    isplitl [cr_yr12]; · iexact cr_yr12
    isplitl [at_xs12]; · iexact at_xs12
    isplitl [t_xs12]; · iexact t_xs12
    isplitl [at_xr12]; · iexact at_xr12
    isplitl [t_xr12]; · iexact t_xr12
    isplitl [cr_xr12]; · iexact cr_xr12
    isplitl [dysrc1]; · iexact dysrc1
    isplitl [dys1]; · iexact dys1
    isplitl [stg1]; · iexact stg1
    isplitl [ost1]; · iexact ost1
    isplitl [o01]; · iexact o01
    isplitl [o11]; · iexact o11
    isplitl [o21]; · iexact o21
    isplitl [o31]; · iexact o31
    isplitl [ysl]; · iexact ysl
    isplitl [xsl0]; · iexact xsl0
    isplitl [xsl1]; · iexact xsl1
    isplitl [xsl2]; · iexact xsl2
    iexact sm
  isplitl [R0] <;> iassumption

/-- What it ends with, whole again. -/
theorem leave (c : Dev nD) (f : Buf (Elt F) ((c : Thread nD τ).loc main_arg1)) (hf : f = dy c) :
    iprop((AT c .bar 1 ∗ AT c (.dy 0) 1 ∗ dySrc dy c 0 ∗ AT c (.dy 1) 1 ∗ dySrc dy c 1 ∗ AT c (.yr 0 0) 1 ∗ has c (YR 0 0) (SND x dy 0 (lft c) 0) ∗ AT c (.yr 1
            0) 1 ∗ has c (YR 1 0) (SND x dy 0 (lft c) 1) ∗ AT c (.yr 0 1) 1 ∗ has c (YR 0 1) (SND x dy 1 (lft c) 0) ∗ AT c (.yr 1 1) 1 ∗ has c (YR 1 1) (SND x dy
            1 (lft c) 1) ∗ has c (DYS 0) (DYB dy c 0) ∗ AT c (.yr 0 2) 1 ∗ has c (YR 0 2) (SND x dy 2 (lft c) 0) ∗ has c XM (x c) ∗ has c (DYS 1) (DYB dy c 1) ∗
            AT c (.yr 1 2) 1 ∗ has c (YR 1 2) (SND x dy 2 (lft c) 1) ∗ AT c (.xs 0 0) 1 ∗ AT c (.xs 0 1) 1 ∗ AT c (.xs 0 2) 1 ∗ AT c (.xr 0 0) 1 ∗ has c (OUTS c 0
            0) (OV x dy c 0 0) ∗ has c (XR 0 0) (XSV x dy (prt 0 c) 0) ∗ AT c (.xr 0 1) 1 ∗ has c (OUTS c 0 1) (OV x dy c 0 1) ∗ has c (XR 0 1) (XSV x dy (prt 1
            c) 0) ∗ AT c (.xr 0 2) 1 ∗ has c (OUTS c 1 0) (OV x dy c 1 0) ∗ has c (XR 0 2) (XSV x dy (prt 2 c) 0) ∗ AT c (.xr 1 0) 1 ∗ has c (OUTS c 2 0) (OV x dy
            c 2 0) ∗ has c (XR 1 0) (XSV x dy (prt 0 c) 1) ∗ AT c (.xr 1 1) 1 ∗ has c (OUTS c 3 0) (OV x dy c 3 0) ∗ has c (XR 1 1) (XSV x dy (prt 1 c) 1) ∗ AT c
            (.xr 1 2) 1 ∗ has c (OUTS c 1 1) (OV x dy c 1 1) ∗ has c (XR 1 2) (XSV x dy (prt 2 c) 1) ∗ AT c (.ys 0) 3 ∗ hasAny c (STG 0) ∗ AT c (.ys 1) 3 ∗ hasAny
            c (STG 1) ∗ AT c (.xs 1 0) 1 ∗ owns (c : Thread nD τ) SM (xsh 0) (XSV x dy c 1) ∗ AT c (.xs 1 1) 1 ∗ owns (c : Thread nD τ) SM (xsh 1) (XSV x dy c 1)
            ∗ AT c (.xs 1 2) 1 ∗ owns (c : Thread nD τ) SM (xsh 2) (XSV x dy c 1) ∗ AT c (.out 0) 4 ∗ has c (OUTS c 2 1) (OV x dy c 2 1) ∗ hasAny c (OST 0) ∗ OWE
            c 17 ∗ AT c (.out 1) 4 ∗ has c (OUTS c 3 1) (OV x dy c 3 1) ∗ hasAny c (OST 1))
        ∗ dyRest c dy 0 ∗ dyRest c dy 1)
      ⊢ iprop((bigSep Finset.univ fun k : CK => AT c k (nr k))
        ∗ ((c : Thread nD τ).loc main_arg1 ↦{fullShare} f) ∗ ((c : Thread nD τ).loc main_v1 ↦{fullShare} (OUT c x dy : Buf (Elt F) ((c : Thread nD τ).loc main_v1)))
        ∗ (buf c cc0_scratch0 ∗ buf c cc0_scratch1 ∗ buf c cc0_scratch2 ∗ buf c cc0_scratch3 ∗ buf c cc0_scratch4 ∗ buf c cc0_scratch5)
        ∗ OWE c 17 ∗ has c XM (x c)) := by
  iintro ⟨⟨at_bar, at_dy0, dysrc0, at_dy1, dysrc1, at_yr00, ly00, at_yr10, ly10, at_yr01, ly01, at_yr11, ly11, dys0, at_yr02, ly02, xm, dys1, at_yr12, ly12,
      at_xs00, at_xs01, at_xs02, at_xr00, o00, lx00, at_xr01, o01, lx01, at_xr02, o10, lx02, at_xr10, o20, lx10, at_xr11, o30, lx11, at_xr12, o11, lx12,
      at_ys0, stg0, at_ys1, stg1, at_xs10, sm0, at_xs11, sm1, at_xs12, sm2, at_out0, o21, ost0, owe, at_out1, o31, ost1⟩, R0, R1⟩
  isplitl [at_bar at_dy0 at_dy1 at_out0 at_out1 at_ys0 at_ys1 at_yr00 at_yr01 at_yr02 at_yr10 at_yr11 at_yr12 at_xs00 at_xs01 at_xs02 at_xs10 at_xs11 at_xs12
      at_xr00 at_xr01 at_xr02 at_xr10 at_xr11 at_xr12]
  · iapply (Entails.of_eq (ck_chain (F := F) fun k => AT c k (nr k)).symm)
    isplitl [at_bar]; · iexact at_bar
    isplitl [at_dy0]; · iexact at_dy0
    isplitl [at_dy1]; · iexact at_dy1
    isplitl [at_out0]; · iexact at_out0
    isplitl [at_out1]; · iexact at_out1
    isplitl [at_ys0]; · iexact at_ys0
    isplitl [at_ys1]; · iexact at_ys1
    isplitl [at_yr00]; · iexact at_yr00
    isplitl [at_yr01]; · iexact at_yr01
    isplitl [at_yr02]; · iexact at_yr02
    isplitl [at_yr10]; · iexact at_yr10
    isplitl [at_yr11]; · iexact at_yr11
    isplitl [at_yr12]; · iexact at_yr12
    isplitl [at_xs00]; · iexact at_xs00
    isplitl [at_xs01]; · iexact at_xs01
    isplitl [at_xs02]; · iexact at_xs02
    isplitl [at_xs10]; · iexact at_xs10
    isplitl [at_xs11]; · iexact at_xs11
    isplitl [at_xs12]; · iexact at_xs12
    isplitl [at_xr00]; · iexact at_xr00
    isplitl [at_xr01]; · iexact at_xr01
    isplitl [at_xr02]; · iexact at_xr02
    isplitl [at_xr10]; · iexact at_xr10
    isplitl [at_xr11]; · iexact at_xr11
    iexact at_xr12
  isplitl [dysrc0 R0 dysrc1 R1]
  · iapply (Entails.of_eq (dy_eq c dy f hf).symm)
    isplitl [dysrc0 R0]
    · isplitl [dysrc0] <;> iassumption
    isplitl [dysrc1] <;> iassumption
  isplitl [o00 o10 o20 o30 o01 o11 o21 o31]
  · iapply (close_out c x dy)
    isplitl [o00]; · iexact o00
    isplitl [o10]; · iexact o10
    isplitl [o20]; · iexact o20
    isplitl [o30]; · iexact o30
    isplitl [o01]; · iexact o01
    isplitl [o11]; · iexact o11
    isplitl [o21]; · iexact o21
    iexact o31
  ihave B0 := (close_dys c) $$ [dys0 dys1]
  · isplitl [dys0]; · iapply (has_any c _ _); iexact dys0
    iapply (has_any c _ _); iexact dys1
  ihave B1 := (close_stg c) $$ [stg0 stg1]
  · isplitl [stg0] <;> iassumption
  ihave B2 := (close_yr c) $$ [ly00 ly01 ly02 ly10 ly11 ly12]
  · isplitl [ly00]; · iapply (has_any c _ _); iexact ly00
    isplitl [ly01]; · iapply (has_any c _ _); iexact ly01
    isplitl [ly02]; · iapply (has_any c _ _); iexact ly02
    isplitl [ly10]; · iapply (has_any c _ _); iexact ly10
    isplitl [ly11]; · iapply (has_any c _ _); iexact ly11
    iapply (has_any c _ _); iexact ly12
  ihave B3 := (join_sm c _) $$ [sm0 sm1 sm2]
  · isplitl [sm0]; · iexact sm0
    isplitl [sm1] <;> iassumption
  ihave B3 := (Entails.of_eq (sm_eq (F := F) c).symm) $$ B3
  ihave B4 := (close_xr c) $$ [lx00 lx01 lx02 lx10 lx11 lx12]
  · isplitl [lx00]; · iapply (has_any c _ _); iexact lx00
    isplitl [lx01]; · iapply (has_any c _ _); iexact lx01
    isplitl [lx02]; · iapply (has_any c _ _); iexact lx02
    isplitl [lx10]; · iapply (has_any c _ _); iexact lx10
    isplitl [lx11]; · iapply (has_any c _ _); iexact lx11
    iapply (has_any c _ _); iexact lx12
  ihave B5 := (close_ost c) $$ [ost0 ost1]
  · isplitl [ost0] <;> iassumption
  isplitl [B0 B1 B2 B3 B4 B5]
  · isplitl [B0]; · iexact B0
    isplitl [B1]; · iexact B1
    isplitl [B2]; · iexact B2
    isplitl [B3]; · iexact B3
    isplitl [B4] <;> iassumption
  isplitl [owe] <;> iassumption

end Cert.Wgrad

end
-- ==== Proof.Launch.lean ====
/-
The launch: every device's run of the kernel, from any memory.
-/
module

public import proofs.«01_k».proof.Proof.Body
public import proofs.«01_k».proof.Proof.Entry
public import proofs.«01_k».proof.Proof.Gen.KernelIdeal.Launch
public import Idealize.ShloMosaic.Lib.Pipeline.CollectiveSegs

@[expose] public section

noncomputable section

namespace Cert.Wgrad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- The memory the run starts from. -/
def s₀ : MemSt nD τ sig (Elt F) := ⟨m, fun _ => 0, ρ⟩

/-- Each device's operands. -/
def xs (c : Dev nD) : S2048x2048.Idx → Elt F .f32 := (win0_0.blk (0 : Fin 1)).view.read (Elt F) (m ((c : Thread nD τ).loc main_arg0))
def dys (c : Dev nD) : S2048x8192.Idx → Elt F .f32 := m ((c : Thread nD τ).loc main_arg1)

abbrev RdM : Rounds.Schedule (GSem nD τ sig) (Fin 5) 𝕄 := Rd (xs m) (dys m)

/-- The two operands' and the result's arrays the pipeline does not stage, and the scratch. -/
def dyPts (c : Dev nD) : sProp 𝕄 := (c : Thread nD τ).loc main_arg1 ↦{fullShare} m ((c : Thread nD τ).loc main_arg1)
def outPts (c : Dev nD) : sProp 𝕄 := (c : Thread nD τ).loc main_v1 ↦{fullShare} (OUT c (xs m) (dys m) : Buf (Elt F) ((c : Thread nD τ).loc main_v1))
def bufs (c : Dev nD) : sProp 𝕄 := iprop(buf c cc0_scratch0 ∗ buf c cc0_scratch1 ∗ buf c cc0_scratch2 ∗ buf c cc0_scratch3 ∗ buf c cc0_scratch4 ∗ buf c cc0_scratch5)

/-- What device `c` starts from. -/
def start (c : Dev nD) : sProp 𝕄 :=
  iprop(G' (xs m) (dys m) c ∗ levAts L lv ∗ (bigSep Finset.univ fun k : CK => cred (tallyAt (kcell c k) () (paid k * amt k))) ∗ dyPts m c ∗ buf c main_v1)

def Φ₀ (c : Dev nD) : sProp 𝕄 := iprop(start m c ∗ bufs c)
def Φ₁ (c : Dev nD) : sProp 𝕄 := iprop((bigSep Finset.univ fun k : CK => semVal (kcell c k) 0) ∗ dyPts m c ∗ outPts m c ∗ bufs c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xs m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 1)).fetch t = true := by rw [fin_N0 t]; rfl

/-! ## The body -/

theorem close_ck (K : Dev nD × CK → ℕ) (c : Dev nD) (k : CK) :
    iprop(PER (xs m) (dys m) K ∗ AT c k (nr k)) ⊢ (|={Set.univ}=> semVal (kcell c k) 0 : sProp 𝕄) := by
  unfold AT
  iintro ⟨HP, Ha, -⟩
  ihave Hi := (PER_inv (xs m) (dys m) K c k) $$ HP
  iapply (Rounds.cell_close ER (RdM m) (Set.mem_univ (K (c, k))) (fun h => h) (R := nr k) (duties_later (xs m) (dys m) c k))
  isplitl [Hi] <;> iassumption

theorem close_all (K : Dev nD × CK → ℕ) (c : Dev nD) :
    iprop(PER (xs m) (dys m) K ∗ bigSep Finset.univ fun k : CK => AT c k (nr k)) ⊢ (|={Set.univ}=> bigSep Finset.univ fun k : CK => semVal (kcell c k) 0 : sProp 𝕄) := by
  have h : iprop(PER (xs m) (dys m) K ∗ bigSep Finset.univ fun k : CK => AT c k (nr k))
      ⊢ (bigSep Finset.univ fun k : CK => iprop(|={Set.univ}=> semVal (kcell c k) 0) : sProp 𝕄) := bigSep_persistently fun k _ => close_ck m K c k
  exact h.trans (bigSep_fupd _ _)

def bodyPre (c : Dev nD) : sProp 𝕄 :=
  iprop(Φ₀ m c ∗ (dats m ρ 0 c).owesAt () t0_0.castSucc ∗ (∃ d, has c XM ((dats m ρ 0 c).before (0 : Fin 1) t0_0 d)))

def bodyPost (c : Dev nD) : sProp 𝕄 :=
  iprop(Φ₁ m c ∗ (dats m ρ 0 c).owesAt () t0_0.succ ∗ has c XM (xs m c))

theorem sound_body (c : Dev nD) :
    bodyPre m ρ c ⊢ wpc c (cc0_body (F := F) XM (Memref.isWhole_whole _) DYM (Memref.isWhole_whole _) OM (Memref.isWhole_whole _) DM (Memref.isWhole_whole _)
      GM (Memref.isWhole_whole _) YM (Memref.isWhole_whole _) SM (Memref.isWhole_whole _) RM (Memref.isWhole_whole _) PM (Memref.isWhole_whole _)
      cc0_scratch6 cc0_scratch7 cc0_scratch8 cc0_scratch9 cc0_scratch10 cc0_scratch11) (fun _ => bodyPost m ρ c) := by
  unfold bodyPre Φ₀ start G'
  iintro ⟨⟨⟨⟨%K, #HR, Hat, Htok⟩, #Hlev, Hcr, Hdy, Hout⟩, Hb⟩, Ho, ⟨%d0, Hx⟩⟩
  have hx : (dats m ρ 0 c).before (0 : Fin 1) t0_0 d0 = xs m c := by unfold Pipeline.Dat.before; rw [if_pos (fetch_0 t0_0)]; rfl
  rw [hx]
  unfold Pipeline.Dat.owesAt Pipeline.owesWithin
  icases Ho with ⟨%W, %hW, HO⟩
  rw [show (dats m ρ 0 c).owed t0_0.castSucc = OB c 0 from rfl]
  unfold records
  icases HR with ⟨#HI, #Hr⟩
  ihave HP := (show iprop((bigSep Finset.univ fun ck : Dev nD × CK => cellInv ER (RdM m) (K ck) (kcell ck.1 ck.2))
      ∗ (bigSep Finset.univ fun ck : Dev nD × CK => reached ER (kcell ck.1 ck.2) 0) ∗ levAts L lv) ⊢ PER (xs m) (dys m) K from by unfold PER; iintro H; iexact H) $$ []
  · isplitr; · iexact HI
    isplitr; · iexact Hr
    iexact Hlev
  icases HP with #HP
  unfold dyPts bufs
  ihave HE := (entry (xs m) (dys m) c (m ((c : Thread nD τ).loc main_arg1)) rfl) $$ [Hat Htok Hcr Hdy Hout Hb HO Hx]
  · isplitl [Hat]; · iexact Hat
    isplitl [Htok]; · iexact Htok
    isplitl [Hcr]; · iexact Hcr
    isplitl [Hdy]; · iexact Hdy
    isplitl [Hout]; · iexact Hout
    isplitl [Hb]; · iexact Hb
    isplitl [HO]; · unfold OWE; iexists W; iexact HO
    iexact Hx
  icases HE with ⟨HE, R0, R1⟩
  iapply (wp_fupd frame (wpE (defs₀ (F := F)) 𝒱₀ (c : Thread nD τ) none) Set.univ _ (fun _ => bodyPost m ρ c))
  iapply (body (xs m) (dys m) K (Q := fun _ => iprop(|={Set.univ}=> bodyPost m ρ c)) c) $$ [HE]
  · isplitr; · iexact HP
    iexact HE
  iintro HF
  ihave HL := (leave (xs m) (dys m) c (m ((c : Thread nD τ).loc main_arg1)) rfl) $$ [HF R0 R1]
  · isplitl [HF]; · iexact HF
    isplitl [R0] <;> iassumption
  icases HL with ⟨Hat, Hdy, Hout, Hb, HO, Hx⟩
  imod (close_all m K c) $$ [Hat] with Hz
  · isplitr; · iexact HP
    iexact Hat
  imodintro
  unfold bodyPost Φ₁ dyPts outPts bufs Pipeline.Dat.owesAt Pipeline.owesWithin
  rw [show (dats m ρ 0 c).owed t0_0.succ = OB c 17 from rfl]
  unfold OWE
  icases HO with ⟨%W', HO⟩
  isplitl [Hz Hdy Hout Hb]
  · isplitl [Hz]; · iexact Hz
    isplitl [Hdy]; · iexact Hdy
    isplitl [Hout] <;> iassumption
  isplitl [HO]
  · iexists W'
    isplitr; · ipureintro; exact fun _ _ => Or.inl trivial
    iexact HO
  iexact Hx

set_option maxRecDepth 100000 in
/-- The library's body obligation on core `c`. -/
theorem body_obligation (c : Dev nD) : Pipeline.BodyObligation (dats (F := F) m ρ 0 c) (defs₀ (F := F)) 𝒱₀ () Set.univ := fun t => by
  rw [fin_N0 t]
  rw [bigSep_W0, bigSep_W0]
  exact sound_body m ρ c

/-! ## The launch -/

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xs m) (dys m) c)
      ⊢ |={Set.univ}=> iprop(start m c ∗ emp) := by
  rw [Pipeline.unscopedRestP_none, unscopedRest0_eq]
  iintro ⟨⟨Hdy, Hout⟩, Hlev, Hcr, -, HG⟩
  ihave Hc := (creds (F := F) c) $$ Hcr
  imodintro
  unfold start dyPts
  isplitl
  · isplitl [HG]; · iexact HG
    isplitl [Hlev]; · iexact Hlev
    isplitl [Hc]; · iexact Hc
    isplitl [Hdy]; · iexact Hdy
    iexists _; iexact Hout
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs]; · iexact Hs
  iexact Hr

theorem phi1_exit (c : Dev nD) :
    (dats m ρ 0 c).Φ (Fin.last cfg0.N) ⊢ iprop((unscopedSems0 c ∗ dyPts m c ∗ outPts m c) ∗ Pipeline.ownSems0 osem c ∗ Pipeline.scopedRest cfg0.spec c) := by
  rw [show (dats m ρ 0 c).Φ (Fin.last cfg0.N) = Φ₁ m c from rfl, scopedRest0_eq]
  unfold Φ₁ bufs
  rw [sems_eq]
  iintro ⟨⟨Hu, Ho⟩, Hdy, Hout, Hr⟩
  isplitl [Hu Hdy Hout]
  · isplitl [Hu]; · iexact Hu
    isplitl [Hdy] <;> iassumption
  isplitl [Ho]; · iexact Ho
  iexact Hr

theorem lv_none (c : Dev nD) (sm : SemLoc sig) (h : ckOf sm = none) : lv ((c : Thread nD τ), sm) () ≤ 0 := by
  unfold lv ckG
  rw [if_pos rfl, h]

theorem waits (c : Dev nD) : (levAts L lv : sProp 𝕄) ⊢ Pipeline.cellsWaits cfgs (dats m ρ) () 0 c :=
  Pipeline.cellsWaits_intro cfgs (dats m ρ) () 0 c fun w s t => by
    have hs : lv ((c : Thread nD τ), .dma (((cfgs 0).win w).sem s)) () ≤ 0 := lv_none c _ (by
      fin_cases w <;> fin_cases s <;> decide +kernel)
    rcases t with ⟨_ | _, ht⟩
    · exact mayWait_of (c := c) 0 (debts c) hs (by
        intro e he
        have h : ∀ t ∈ dls, 0 < lvk t.1 := by decide +kernel
        rw [debts_eq] at he
        obtain ⟨t, ht, rfl⟩ := List.mem_map.mp he
        exact h t ht)
    · exact mayWait_of (c := c) 0 [] hs (by intro e he; exact absurd he List.not_mem_nil)

/-! ## The run -/

/-- Both operands as they were, and the result as computed. -/
def QC (s : MemSt nD τ sig (Elt F)) : Prop :=
  ∀ c : Dev nD, s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = (OUT c (xs m) (dys m) : Buf (Elt F) ((c : Thread nD τ).loc main_v1))

/-- What is read of device `c` at the end. -/
def QY (c : Dev nD) (s : MemSt nD τ sig (Elt F)) : Prop :=
  (s.mem ((c : Thread nD τ).loc main_arg1) = m ((c : Thread nD τ).loc main_arg1)
    ∧ s.mem ((c : Thread nD τ).loc main_v1) = (OUT c (xs m) (dys m) : Buf (Elt F) ((c : Thread nD τ).loc main_v1)))
  ∧ ∀ sm : SemLoc sig, sm.isScoped .tc = false → s.sem ((c.tc : Thread nD τ), sm) = 0

theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) ({()} : Finset Unit) (fun _ => ℓ) (fun _ => f) s'
  rw [bigSep_singleton] at h
  iintro H
  ihave H := h $$ H
  icases H with ⟨%hh, H⟩
  isplitr; · ipureintro; exact hh () (Finset.mem_singleton_self _)
  iexact H

theorem read_end (c : Dev nD) (s' : Phys nD τ sig (Elt F)) :
    iprop((unscopedSems0 c ∗ dyPts m c ∗ outPts m c) ∗ emp ∗ SI s') ⊢ (|={Set.univ}=> iprop(⌜QY m c s'.mem⌝ ∗ SI s') : sProp 𝕄) := by
  unfold dyPts outPts
  iintro ⟨⟨Hu, Hdy, Hout⟩, -, HSI⟩
  ihave H := (read_one ((c : Thread nD τ).loc main_arg1) _ s') $$ [Hdy HSI]
  · isplitl [Hdy] <;> iassumption
  icases H with ⟨%h1, HSI⟩
  ihave H := (read_one ((c : Thread nD τ).loc main_v1) _ s') $$ [Hout HSI]
  · isplitl [Hout] <;> iassumption
  icases H with ⟨%h2, HSI⟩
  imod (Pipeline.unscopedSems0_read (X := unscopedSems0 c) (c := c) fupd_intro s') $$ [Hu HSI] with ⟨%h3, HSI⟩
  · isplitl [Hu] <;> iassumption
  imodintro
  isplitr; · ipureintro; exact ⟨⟨h1, h2⟩, h3⟩
  iexact HSI

set_option maxRecDepth 8000 in
/-- From any memory with every counter at zero, for any float values: every weakly fair execution of the program ends, with both operands
    as they were, the result as computed and every counter at zero again. -/
theorem run_main : θ_run defs (onTc (τ := τ) (main (F := F))) (s₀ m ρ) (fun r => QC m r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xs m) (dys m)) (G' := G' (xs m) (dys m)) (u₀ := u₀)
    (hu₀ := by
      unfold u₀
      iintro Hu
      ihave H := (ownU_pair _ _) $$ Hu
      icases H with ⟨HP, HX⟩
      imod (fund_cells (xs m) (dys m)) $$ HX with HG
      imodintro
      isplitl [HP] <;> iassumption)
    (hglob := glob (xs m) (dys m))
    (hA := fun _ _ => rfl) (hpf := fun _ k => k.elim0)
    (X := start m) (Y := fun c => iprop(unscopedSems0 c ∗ dyPts m c ∗ outPts m c)) (Z := fun _ => iprop(emp))
    (hX := start_intro m ρ) (hin := phi0_intro m ρ) (hout := phi1_exit m ρ)
    (QY := QY m) (hY := read_end m)
    (hQ := fun _ h hs => ⟨fun c => ⟨((h c).1 (0 : Fin 1)).trans ((dats (F := F) m ρ 0 c).arrAt_in (0 : Fin 1) rfl _), (h c).2.2.1.1, (h c).2.2.1.2⟩,
      sem_eq_zero hs fun c => (h c).2.2.2⟩)

end Cert.Wgrad

end
-- ==== Proof.Value.lean ====
/-
The result over the extended reals: the product of the whole operands.
-/
module

public import proofs.«01_k».proof.Proof.Launch
public import proofs.«01_k».proof.Proof.Gen.ReferenceIdeal.Run
public import proofs.«01_k».proof.Defs
public import Idealize.ShloMosaic.Lib.Pointwise
public import Idealize.ShloMosaic.Lib.Pipeline.Value

@[expose] public section

noncomputable section

namespace Cert.Wgrad

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The product of one block, at an index. -/
theorem dot_apply (a : Vec Ideal S2048x512 .f32) (b : Vec Ideal S2048x1024 .f32) (j : S512x1024.Idx) :
    DOT a b j = ∑ k : Fin 2048, a (ix2 k (j 0)) * b (ix2 k (j 1)) := by
  unfold DOT
  pointwise

/-- The whole sum of a device's block: four products, one from each of the devices that share its columns. -/
theorem fin_apply (x : Dev nD → S2048x2048.Idx → Elt Ideal .f32) (dy : Dev nD → S2048x8192.Idx → Elt Ideal .f32) (c : Dev nD) (s : Fin 2) (j : S512x1024.Idx) :
    FIN x dy c s j = DOT (XK x c 0) (DYB dy c s) j + (DOT (XK x (lft c) 1) (DYB dy (lft c) s) j
      + (DOT (XK x (lft (lft c)) 2) (DYB dy (lft (lft c)) s) j + DOT (XK x (lft (lft (lft c))) 3) (DYB dy (lft (lft (lft c))) s) j)) := by
  rfl

/-- The neighbour to the left along the ring sits one shard of rows before, around the ring. -/
theorem yOf_lft (c : Dev nD) : yOf (lft c) = (yOf c + 3) % 4 := by revert c; decide

/-- A device and its neighbour along the ring work on the same quarter of the columns. -/
theorem quarter_lft (c : Dev nD) : quarter (lft c) = quarter c := by revert c; decide

/-- The devices that exchange finished quarters hold the same shard of rows. -/
theorem yOf_srcDev (c : Dev nD) (q : Fin 4) : yOf (srcDev c q) = yOf c := by revert c q; decide

/-- A block of the first operand's columns, read from the device's shard. -/
theorem xk_apply (x : Dev nD → S2048x2048.Idx → Elt Ideal .f32) (c : Dev nD) (r : Fin 4) (j : S2048x512.Idx) (i : S2048x2048.Idx)
    (h0 : (i 0).val = (j 0).val) (h1 : (i 1).val = 512 * ((yOf c + r.val) % 4) + (j 1).val) : XK x c r j = x c i := by
  have e : ∀ (o : Fin 2 → ℕ) (hb) (_ : o = ![0, 512 * ((yOf c + r.val) % 4)]),
      x c ((Rect.unit (s := S2048x2048) o S2048x512.size hb).emb j) = x c i := by
    intro o hb ho
    subst ho
    congr 1
    funext b
    apply Fin.ext
    rw [Rect.emb_apply]
    fin_cases b
    · show 0 + 1 * (j 0).val = (i 0).val
      omega
    · show 512 * ((yOf c + r.val) % 4) + 1 * (j 1).val = (i 1).val
      omega
  have hy := yOf_lt c
  fin_cases r
  · exact e _ _ ((off3 c).trans (by rw [show (yOf c + ((⟨0, by omega⟩ : Fin 4)).val) % 4 = yOf c from Nat.mod_eq_of_lt hy]))
  · exact e _ _ (off2 c 0)
  · exact e _ _ (off2 c 1)
  · exact e _ _ (off2 c 2)

/-- A block of the second operand's columns, read from the device's shard. -/
theorem dyb_apply (dy : Dev nD → S2048x8192.Idx → Elt Ideal .f32) (c : Dev nD) (s : Fin 2) (j : S2048x1024.Idx) (i : S2048x8192.Idx)
    (h0 : (i 0).val = (j 0).val) (h1 : (i 1).val = 2048 * quarter c + 1024 * s.val + (j 1).val) : DYB dy c s j = dy c i := by
  have e : ∀ (o : Fin 2 → ℕ) (hb) (_ : o = ![0, 2048 * quarter c + 1024 * s.val]),
      dy c ((Rect.unit (s := S2048x8192) o S2048x1024.size hb).emb j) = dy c i := by
    intro o hb ho
    subst ho
    congr 1
    funext b
    apply Fin.ext
    rw [Rect.emb_apply]
    fin_cases b
    · show 0 + 1 * (j 0).val = (i 0).val
      omega
    · show 2048 * quarter c + 1024 * s.val + 1 * (j 1).val = (i 1).val
      omega
  exact e _ (k0_off1_inb c s) (off1 c s)

/-- The sum of the products over the rows that one shard holds. -/
def T (A : Cert.ReferenceIdeal.S8192x2048.Idx → Elt Ideal .f32) (B : Cert.ReferenceIdeal.S8192x8192.Idx → Elt Ideal .f32) (I : Fin 2048) (J : Fin 8192) (b : Fin 4) : EReal :=
  ∑ k : Fin 2048, A (ix2 (⟨2048 * b.val + k.val, by omega⟩ : Fin 8192) I) * B (ix2 (⟨2048 * b.val + k.val, by omega⟩ : Fin 8192) J)

/-- The sum over all the rows is the sum of the four shards' sums. -/
theorem sum_T (A : Cert.ReferenceIdeal.S8192x2048.Idx → Elt Ideal .f32) (B : Cert.ReferenceIdeal.S8192x8192.Idx → Elt Ideal .f32) (I : Fin 2048) (J : Fin 8192) :
    (∑ k : Fin 8192, A (ix2 k I) * B (ix2 k J) : EReal) = ∑ b : Fin 4, T A B I J b := by
  unfold T
  rw [← Fintype.sum_prod_type']
  exact (Fintype.sum_equiv (finProdFinEquiv (m := 4) (n := 2048)) _ _ (fun p => by
    have e : (⟨2048 * p.1.val + p.2.val, by omega⟩ : Fin 8192) = finProdFinEquiv p := Fin.ext (Nat.add_comm _ _)
    rw [e])).symm

/-- The four shards' sums, in whichever order they are met. -/
theorem rot_T (t : Fin 4 → EReal) (y : Fin 4) : t y + (t (y + 3) + (t (y + 2) + t (y + 1))) = ∑ b : Fin 4, t b := by
  rw [Fin.sum_univ_four]
  fin_cases y
  · show t 0 + (t 3 + (t 2 + t 1)) = _
    ac_rfl
  · show t 1 + (t 0 + (t 3 + t 2)) = _
    ac_rfl
  · show t 2 + (t 1 + (t 0 + t 3)) = _
    ac_rfl
  · show t 3 + (t 2 + (t 1 + t 0)) = _
    ac_rfl

section
variable (A : Cert.ReferenceIdeal.S8192x2048.Idx → Elt Ideal .f32) (B : Cert.ReferenceIdeal.S8192x8192.Idx → Elt Ideal .f32)
  (x : Dev nD → S2048x2048.Idx → Elt Ideal .f32) (dy : Dev nD → S2048x8192.Idx → Elt Ideal .f32)

/-- A device's product is its shard's sum. -/
theorem dot_T (hx : ∀ (c : Dev nD) (k : Fin 2048) (j : Fin 2048), x c (ix2 k j) = A (ix2 (⟨2048 * yOf c + k.val, by have := yOf_lt c; omega⟩ : Fin 8192) j))
    (hd : ∀ (c : Dev nD) (k : Fin 2048) (j : Fin 8192), dy c (ix2 k j) = B (ix2 (⟨2048 * yOf c + k.val, by have := yOf_lt c; omega⟩ : Fin 8192) j))
    (c : Dev nD) (r : Fin 4) (s : Fin 2) (j : S512x1024.Idx) (I : Fin 2048) (J : Fin 8192) (b : Fin 4)
    (hI : I.val = 512 * ((yOf c + r.val) % 4) + (j 0).val) (hJ : J.val = 2048 * quarter c + 1024 * s.val + (j 1).val) (hb : b.val = yOf c) :
    DOT (XK x c r) (DYB dy c s) j = T A B I J b := by
  rw [dot_apply]
  unfold T
  refine Finset.sum_congr rfl fun k _ => ?_
  rw [xk_apply x c r (ix2 k (j 0)) (ix2 k I) rfl hI, dyb_apply dy c s (ix2 k (j 1)) (ix2 k J) rfl hJ, hx, hd]
  simp only [hb]

/-- The finished block of a device: the sum over all the rows of the two operands. -/
theorem fin_T (hx : ∀ (c : Dev nD) (k : Fin 2048) (j : Fin 2048), x c (ix2 k j) = A (ix2 (⟨2048 * yOf c + k.val, by have := yOf_lt c; omega⟩ : Fin 8192) j))
    (hd : ∀ (c : Dev nD) (k : Fin 2048) (j : Fin 8192), dy c (ix2 k j) = B (ix2 (⟨2048 * yOf c + k.val, by have := yOf_lt c; omega⟩ : Fin 8192) j))
    (c : Dev nD) (s : Fin 2) (j : S512x1024.Idx) (I : Fin 2048) (J : Fin 8192)
    (hI : I.val = 512 * yOf c + (j 0).val) (hJ : J.val = 2048 * quarter c + 1024 * s.val + (j 1).val) :
    FIN x dy c s j = ∑ k : Fin 8192, A (ix2 k I) * B (ix2 k J) := by
  have hy := yOf_lt c
  have y1 := yOf_lft c
  have y2 := yOf_lft (lft c)
  have y3 := yOf_lft (lft (lft c))
  have q1 := quarter_lft c
  have q2 := quarter_lft (lft c)
  have q3 := quarter_lft (lft (lft c))
  rw [fin_apply, sum_T, ← rot_T _ ⟨yOf c, hy⟩,
    dot_T A B x dy hx hd c 0 s j I J ⟨yOf c, hy⟩ (by simp only [Fin.val_zero]; omega) hJ rfl,
    dot_T A B x dy hx hd (lft c) 1 s j I J (⟨yOf c, hy⟩ + 3) (by show _ = 512 * ((yOf (lft c) + 1) % 4) + _; omega) (by omega) (by rw [Fin.val_add]; show (yOf c + 3) % 4 = _; omega),
    dot_T A B x dy hx hd (lft (lft c)) 2 s j I J (⟨yOf c, hy⟩ + 2) (by show _ = 512 * ((yOf (lft (lft c)) + 2) % 4) + _; omega) (by omega) (by rw [Fin.val_add]; show (yOf c + 2) % 4 = _; omega),
    dot_T A B x dy hx hd (lft (lft (lft c))) 3 s j I J (⟨yOf c, hy⟩ + 1) (by show _ = 512 * ((yOf (lft (lft (lft c))) + 3) % 4) + _; omega) (by omega) (by rw [Fin.val_add]; show (yOf c + 1) % 4 = _; omega)]

/-- A block of the result is the finished block of the device it comes from. -/
theorem ov_fin (c : Dev nD) (q : Fin 4) (s : Fin 2) (j : S512x1024.Idx) : OV x dy c q s j = FIN x dy (srcDev c q) s j := by
  fin_cases q <;> rfl

/-- The result a device holds is its block of rows of the whole product. -/
theorem out_T (hx : ∀ (c : Dev nD) (k : Fin 2048) (j : Fin 2048), x c (ix2 k j) = A (ix2 (⟨2048 * yOf c + k.val, by have := yOf_lt c; omega⟩ : Fin 8192) j))
    (hd : ∀ (c : Dev nD) (k : Fin 2048) (j : Fin 8192), dy c (ix2 k j) = B (ix2 (⟨2048 * yOf c + k.val, by have := yOf_lt c; omega⟩ : Fin 8192) j))
    (c : Dev nD) (i : S512x8192.Idx) (I : Fin 2048) (J : Fin 8192)
    (hI : I.val = 512 * yOf c + (i 0).val) (hJ : J.val = (i 1).val) :
    OUT c x dy i = ∑ k : Fin 8192, A (ix2 k I) * B (ix2 k J) := by
  have hl : (i 1).val < 8192 := (i 1).isLt
  unfold OUT
  rw [ov_fin]
  refine fin_T A B x dy hx hd _ _ _ I J ?_ ?_
  · rw [yOf_srcDev]
    exact hI
  · have hq := quarter_qOf c ⟨(i 1).val / 2048, by omega⟩
    rw [show quarter (srcDev c (qOf c ((i 1).val / 2048))) = (i 1).val / 2048 from hq]
    show J.val = 2048 * ((i 1).val / 2048) + 1024 * ((i 1).val % 2048 / 1024) + (i 1).val % 1024
    omega
end

/-- The reference's product, at an index. -/
theorem ref_apply (A : Cert.ReferenceIdeal.S8192x2048.Idx → Elt Ideal .f32) (B : Cert.ReferenceIdeal.S8192x8192.Idx → Elt Ideal .f32) (i : Cert.ReferenceIdeal.S2048x8192.Idx) :
    (Host.dotGeneral (φ₁ := .f32) (φ₂ := .f32) Cert.ReferenceIdeal.dot_S2048x8192_S8192x8192_S2048x8192_1_0_0_1_n_n none (transpose Cert.ReferenceIdeal.S2048x8192 [1, 0] A Cert.ReferenceIdeal.Gen.transposes_S8192x2048_S2048x8192_1_0 : FVec Ideal Cert.ReferenceIdeal.S2048x8192 .f32) (B : FVec Ideal Cert.ReferenceIdeal.S8192x8192 .f32) : FVec Ideal Cert.ReferenceIdeal.S2048x8192 .f32) i
      = ∑ k : Fin 8192, A (ix2 k (i 0)) * B (ix2 k (i 1)) := by
  pointwise

/-- The staged first operand is the whole buffer. -/
theorem xs_eq (m : (ℓ : Loc nD τ sig) → Buf (Elt Ideal) ℓ) (d : Dev nD) (i : S2048x2048.Idx) :
    xs m d i = m ((d : Thread nD τ).loc main_arg0) i := by
  unfold xs
  rw [View.read_apply]
  have e : (win0_0.blk (0 : Fin 1)).view.emb i = i := by
    funext b
    apply Fin.ext
    exact (Pipeline.Window.rect_emb_val_of_index_zero win0_0 (0 : Fin 1) b (by fin_cases b <;> rfl) i)
  exact congrArg (m ((d : Thread nD τ).loc main_arg0)) e

/-- The rows' axis is cut along the second axis of the mesh. -/
theorem cut0 (c : Dev nD) : ((Layout.meshBlock [2, 4, 4] ![[1], []] c) (0 : Fin 2)).val = yOf c := by
  revert c; decide

/-- The columns' axis is not cut. -/
theorem cut1 (c : Dev nD) : ((Layout.meshBlock [2, 4, 4] ![[1], []] c) (1 : Fin 2)).val = 0 := by
  revert c; decide

/-- Over the extended reals every device ends with its block of rows of the reference's product. -/
theorem algebraic : Cert.algebraic_KernelIdeal_ReferenceIdeal := by
  intro m g m' g' _ hm
  refine ⟨_, (θ_run Cert.KernelIdeal.defs _ _).mono (fun r h c => ⟨((h.1 c).2.2).trans ?_, (h.1 c).1, (h.1 c).2.1⟩) (run_main (F := Ideal) m g),
    (θ_run Cert.ReferenceIdeal.defs _ _).mono (fun r h => h 0) (Cert.ReferenceIdeal.Value.run (F := Ideal) m' g')⟩
  funext i
  have hy := yOf_lt c
  have h0 : (i 0).val < 512 := (i 0).isLt
  have h1 : (i 1).val < 8192 := (i 1).isLt
  rw [Layout.blockN_apply, ref_apply]
  refine out_T _ _ (xs m) (dys m) ?_ ?_ c i _ _ ?_ ?_
  · intro d k j
    have hd := yOf_lt d
    rw [xs_eq]
    rw [(hm d).1, Layout.blockN_apply]
    congr 1
    funext b
    apply Fin.ext
    rw [Layout.TilesN.idx_val]
    fin_cases b
    · show ((Layout.meshBlock [2, 4, 4] ![[1], []] d) (0 : Fin 2)).val * 2048 + k.val = 2048 * yOf d + k.val
      rw [cut0]
      omega
    · show ((Layout.meshBlock [2, 4, 4] ![[1], []] d) (1 : Fin 2)).val * 2048 + j.val = j.val
      rw [cut1]
      omega
  · intro d k j
    have hd := yOf_lt d
    show m ((d.tc : Thread nD τ).loc main_arg1) (ix2 k j) = _
    rw [(hm d).2, Layout.blockN_apply]
    congr 1
    funext b
    apply Fin.ext
    rw [Layout.TilesN.idx_val]
    fin_cases b
    · show ((Layout.meshBlock [2, 4, 4] ![[1], []] d) (0 : Fin 2)).val * 2048 + k.val = 2048 * yOf d + k.val
      rw [cut0]
      omega
    · show ((Layout.meshBlock [2, 4, 4] ![[1], []] d) (1 : Fin 2)).val * 8192 + j.val = j.val
      rw [cut1]
      omega
  · rw [Layout.TilesN.idx_val]
    show ((Layout.meshBlock [2, 4, 4] ![[1], []] c) (0 : Fin 2)).val * 512 + (i 0).val = _
    rw [cut0]
    omega
  · rw [Layout.TilesN.idx_val]
    show ((Layout.meshBlock [2, 4, 4] ![[1], []] c) (1 : Fin 2)).val * 8192 + (i 1).val = _
    rw [cut1]
    omega

end Cert.Wgrad

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The two programs' tables of bodies are the same: label by label. -/
theorem defs₀_eq : Cert.Kernel.defs₀ (F := Bits) = Cert.KernelIdeal.defs₀ (F := Bits) := by
  refine congrArg (Defs.onTc (nD := nD) (τ := τ) (sig := sig) (Val := Elt Bits) (Λ := Λ₀)) ?_
  funext l a
  fin_cases l
  rfl

theorem defs_eq : Cert.Kernel.defs (F := Bits) = Cert.KernelIdeal.defs (F := Bits) :=
  congrArg (Pipeline.defs (pcfgs (F := Bits))) defs₀_eq

theorem frame_kernel : Cert.quiescent_Kernel := by
  intro m ρ _
  have h : θ_run (Cert.KernelIdeal.defs (F := Bits)) (onTc (τ := Cert.KernelIdeal.τ) (Cert.KernelIdeal.main (F := Bits))) ⟨m, fun _ => 0, ρ⟩ (fun r => (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) ∧ r.2.sem = fun _ => 0) :=
    (θ_run Cert.KernelIdeal.defs _ _).mono (fun _ h => ⟨fun c => ⟨(h.1 c).1, (h.1 c).2.1⟩, h.2⟩) (Cert.Wgrad.run_main (F := Bits) m ρ)
  rw [defs_eq]
  exact h

theorem frame_kernelIdeal : Cert.quiescent_KernelIdeal := fun m ρ _ =>
  (θ_run Cert.KernelIdeal.defs _ _).mono (fun _ h => ⟨fun c => ⟨(h.1 c).1, (h.1 c).2.1⟩, h.2⟩) (Cert.Wgrad.run_main (F := Ideal) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem claim : Cert.Claim := ⟨Cert.Kernel.Gen.facts, Cert.KernelIdeal.Gen.facts, Cert.ReferenceIdeal.Gen.facts,
  frame_kernel, frame_kernelIdeal, frame_referenceIdeal, trivial, Cert.Wgrad.algebraic⟩

end Cert.Proof

end
